-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![1, 512, 512]⟩ ⟨3, ![8, 512, 512]⟩ 0 8 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x512x512 : Shape := ⟨3, ![1, 512, 512]⟩
abbrev S512x512 : Shape := ⟨2, ![512, 512]⟩
abbrev S8x64x512 : Shape := ⟨3, ![8, 64, 512]⟩
abbrev S8 : Shape := ⟨1, ![8]⟩
abbrev S_ : Shape := ⟨0, ![]⟩
abbrev S1 : Shape := ⟨1, ![1]⟩
abbrev S1x64x512 : Shape := ⟨3, ![1, 64, 512]⟩
abbrev S64x512 : Shape := ⟨2, ![64, 512]⟩

abbrev nBuf : Space → Nat
  | .hbm => 2
  | .vmem => 4
  | .smem => 0
  | _ => 0

abbrev bufTy : (tb : Table) → Fin (tcTables nBuf tb) → BufTy
  | .hbm, ⟨0, _⟩ => ⟨S1x512x512, .bf16⟩
  | .hbm, ⟨1, _⟩ => ⟨S512x512, .bf16⟩
  | .local _ .vmem, ⟨0, _⟩ => ⟨S1x512x512, .bf16⟩
  | .local _ .vmem, ⟨1, _⟩ => ⟨S512x512, .bf16⟩
  | .local _ .vmem, ⟨2, _⟩ => ⟨S512x512, .bf16⟩
  | .local _ .vmem, ⟨3, _⟩ => ⟨S8x64x512, .bf16⟩
  | _, _ => ⟨S1x512x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  (ofTc nBuf bufTy 1 34 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v9 : BitVec 32 := Scalar.xori v2 c6_i32
  let c1_i32_5 : BitVec 32 := 1#32
  let v10 : BitVec 32 := Scalar.muli v9 c1_i32_5
  let v11 : BitVec 32 := Scalar.addi c0_i32 v10
  v11.toNat
def k0_dev2 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v12 : BitVec 32 := Scalar.xori v2 c2_i32
  let c1_i32_7 : BitVec 32 := 1#32
  let v13 : BitVec 32 := Scalar.muli v12 c1_i32_7
  let v14 : BitVec 32 := Scalar.addi c0_i32_8 v13
  v14.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v15 : BitVec 32 := Scalar.xori v2 c5_i32
  let c1_i32_10 : BitVec 32 := 1#32
  let v16 : BitVec 32 := Scalar.muli v15 c1_i32_10
  let v17 : BitVec 32 := Scalar.addi c0_i32_11 v16
  v17.toNat
def k0_dev4 (d0 : Dev nD) : Nat :=
  let c0_i32_14 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v18 : BitVec 32 := Scalar.xori v2 c7_i32
  let c1_i32_13 : BitVec 32 := 1#32
  let v19 : BitVec 32 := Scalar.muli v18 c1_i32_13
  let v20 : BitVec 32 := Scalar.addi c0_i32_14 v19
  v20.toNat
def k0_dev5 (d0 : Dev nD) : Nat :=
  let c0_i32_18 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_15 : BitVec 32 := 1#32
  let v21 : BitVec 32 := Scalar.xori v2 c1_i32_15
  let c1_i32_17 : BitVec 32 := 1#32
  let v22 : BitVec 32 := Scalar.muli v21 c1_i32_17
  let v23 : BitVec 32 := Scalar.addi c0_i32_18 v22
  v23.toNat
def k0_dev6 (d0 : Dev nD) : Nat :=
  let c0_i32_21 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v24 : BitVec 32 := Scalar.xori v2 c3_i32
  let c1_i32_20 : BitVec 32 := 1#32
  let v25 : BitVec 32 := Scalar.muli v24 c1_i32_20
  let v26 : BitVec 32 := Scalar.addi c0_i32_21 v25
  v26.toNat
def k0_dev7 (d0 : Dev nD) : Nat :=
  let c0_i32_24 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v27 : BitVec 32 := Scalar.xori v2 c4_i32
  let c1_i32_23 : BitVec 32 := 1#32
  let v28 : BitVec 32 := Scalar.muli v27 c1_i32_23
  let v29 : BitVec 32 := Scalar.addi c0_i32_24 v28
  v29.toNat
def k0_off1 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off2 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_30 : BitVec 32 := 0#32
  let c0_i32_31 : BitVec 32 := 0#32
  ![v2.toNat, 0, 0]
def k0_off3 (d0 : Dev nD) (c6_i32_26 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v30 : BitVec 32 := Scalar.xori v2 c6_i32_26
  let c64_i32 : BitVec 32 := 64#32
  let v31 : BitVec 32 := Scalar.muli v30 c64_i32
  let c0_i32_32 : BitVec 32 := 0#32
  ![v31.toNat, 0]
def k0_dev8 (d0 : Dev nD) : Nat :=
  let c0_i32_29 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_26 : BitVec 32 := 6#32
  let v30 : BitVec 32 := Scalar.xori v2 c6_i32_26
  let c1_i32_28 : BitVec 32 := 1#32
  let v32 : BitVec 32 := Scalar.muli v30 c1_i32_28
  let v33 : BitVec 32 := Scalar.addi c0_i32_29 v32
  v33.toNat
def k0_dev9 (d0 : Dev nD) : Nat :=
  let c0_i32_37 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_33 : BitVec 32 := 2#32
  let v41 : BitVec 32 := Scalar.xori v2 c2_i32_33
  let c1_i32_36 : BitVec 32 := 1#32
  let v43 : BitVec 32 := Scalar.muli v41 c1_i32_36
  let v44 : BitVec 32 := Scalar.addi c0_i32_37 v43
  v44.toNat
def k0_dev10 (d0 : Dev nD) : Nat :=
  let c0_i32_45 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_41 : BitVec 32 := 5#32
  let v52 : BitVec 32 := Scalar.xori v2 c5_i32_41
  let c1_i32_44 : BitVec 32 := 1#32
  let v54 : BitVec 32 := Scalar.muli v52 c1_i32_44
  let v55 : BitVec 32 := Scalar.addi c0_i32_45 v54
  v55.toNat
def k0_dev11 (d0 : Dev nD) : Nat :=
  let c0_i32_53 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_49 : BitVec 32 := 7#32
  let v63 : BitVec 32 := Scalar.xori v2 c7_i32_49
  let c1_i32_52 : BitVec 32 := 1#32
  let v65 : BitVec 32 := Scalar.muli v63 c1_i32_52
  let v66 : BitVec 32 := Scalar.addi c0_i32_53 v65
  v66.toNat
def k0_dev12 (d0 : Dev nD) : Nat :=
  let c0_i32_61 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_57 : BitVec 32 := 1#32
  let v74 : BitVec 32 := Scalar.xori v2 c1_i32_57
  let c1_i32_60 : BitVec 32 := 1#32
  let v76 : BitVec 32 := Scalar.muli v74 c1_i32_60
  let v77 : BitVec 32 := Scalar.addi c0_i32_61 v76
  v77.toNat
def k0_dev13 (d0 : Dev nD) : Nat :=
  let c0_i32_69 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_65 : BitVec 32 := 3#32
  let v85 : BitVec 32 := Scalar.xori v2 c3_i32_65
  let c1_i32_68 : BitVec 32 := 1#32
  let v87 : BitVec 32 := Scalar.muli v85 c1_i32_68
  let v88 : BitVec 32 := Scalar.addi c0_i32_69 v87
  v88.toNat
def k0_dev14 (d0 : Dev nD) : Nat :=
  let c0_i32_77 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_73 : BitVec 32 := 4#32
  let v96 : BitVec 32 := Scalar.xori v2 c4_i32_73
  let c1_i32_76 : BitVec 32 := 1#32
  let v98 : BitVec 32 := Scalar.muli v96 c1_i32_76
  let v99 : BitVec 32 := Scalar.addi c0_i32_77 v98
  v99.toNat
def k0_off4 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32_81 : BitVec 32 := 64#32
  let v107 : BitVec 32 := Scalar.muli v2 c64_i32_81
  let v108 : Index := Scalar.indexCast v107
  let c0_82 : Index := 0#32
  ![v108.toNat, 0]
def k0_off5 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v111 : Index := Scalar.indexCast v2
  let c0_83 : Index := 0#32
  let c0_84 : Index := 0#32
  ![v111.toNat, 0, 0]
def k0_off6 (d0 : Dev nD) (c6_i32_85 : BitVec 32) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v115 : BitVec 32 := Scalar.xori v2 c6_i32_85
  ![v115.toNat]
def k0_off7 (d0 : Dev nD) (c6_i32_85 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v115 : BitVec 32 := Scalar.xori v2 c6_i32_85
  let c0_i32_89 : BitVec 32 := 0#32
  let c0_i32_90 : BitVec 32 := 0#32
  ![v115.toNat, 0, 0]
def k0_off8 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32_162 : BitVec 32 := 64#32
  let v206 : BitVec 32 := Scalar.muli v2 c64_i32_162
  let c0_i32_166 : BitVec 32 := 0#32
  ![v206.toNat, 0]
def k0_dev15 (d0 : Dev nD) : Nat :=
  let c0_i32_165 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_160 : BitVec 32 := 6#32
  let v204 : BitVec 32 := Scalar.xori v2 c6_i32_160
  let c1_i32_164 : BitVec 32 := 1#32
  let v207 : BitVec 32 := Scalar.muli v204 c1_i32_164
  let v208 : BitVec 32 := Scalar.addi c0_i32_165 v207
  v208.toNat
def k0_dev16 (d0 : Dev nD) : Nat :=
  let c0_i32_173 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_168 : BitVec 32 := 2#32
  let v215 : BitVec 32 := Scalar.xori v2 c2_i32_168
  let c1_i32_172 : BitVec 32 := 1#32
  let v218 : BitVec 32 := Scalar.muli v215 c1_i32_172
  let v219 : BitVec 32 := Scalar.addi c0_i32_173 v218
  v219.toNat
def k0_dev17 (d0 : Dev nD) : Nat :=
  let c0_i32_181 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_176 : BitVec 32 := 5#32
  let v226 : BitVec 32 := Scalar.xori v2 c5_i32_176
  let c1_i32_180 : BitVec 32 := 1#32
  let v229 : BitVec 32 := Scalar.muli v226 c1_i32_180
  let v230 : BitVec 32 := Scalar.addi c0_i32_181 v229
  v230.toNat
def k0_dev18 (d0 : Dev nD) : Nat :=
  let c0_i32_189 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_184 : BitVec 32 := 7#32
  let v237 : BitVec 32 := Scalar.xori v2 c7_i32_184
  let c1_i32_188 : BitVec 32 := 1#32
  let v240 : BitVec 32 := Scalar.muli v237 c1_i32_188
  let v241 : BitVec 32 := Scalar.addi c0_i32_189 v240
  v241.toNat
def k0_dev19 (d0 : Dev nD) : Nat :=
  let c0_i32_197 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_192 : BitVec 32 := 1#32
  let v248 : BitVec 32 := Scalar.xori v2 c1_i32_192
  let c1_i32_196 : BitVec 32 := 1#32
  let v251 : BitVec 32 := Scalar.muli v248 c1_i32_196
  let v252 : BitVec 32 := Scalar.addi c0_i32_197 v251
  v252.toNat
def k0_dev20 (d0 : Dev nD) : Nat :=
  let c0_i32_205 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_200 : BitVec 32 := 3#32
  let v259 : BitVec 32 := Scalar.xori v2 c3_i32_200
  let c1_i32_204 : BitVec 32 := 1#32
  let v262 : BitVec 32 := Scalar.muli v259 c1_i32_204
  let v263 : BitVec 32 := Scalar.addi c0_i32_205 v262
  v263.toNat
def k0_dev21 (d0 : Dev nD) : Nat :=
  let c0_i32_213 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_208 : BitVec 32 := 4#32
  let v270 : BitVec 32 := Scalar.xori v2 c4_i32_208
  let c1_i32_212 : BitVec 32 := 1#32
  let v273 : BitVec 32 := Scalar.muli v270 c1_i32_212
  let v274 : BitVec 32 := Scalar.addi c0_i32_213 v273
  v274.toNat
abbrev stage0_0 : Fin 1 → Memref sig .tc .vmem S1x512x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S8x512x512 : Shape := ⟨3, ![8, 512, 512]⟩
abbrev S_ : Shape := ⟨0, ![]⟩
abbrev S512x512 : Shape := ⟨2, ![512, 512]⟩

abbrev nBuf : Space → Nat
  | .hbm => 5
  | .vmem => 0
  | .smem => 0
  | _ => 0

abbrev bufTy : (tb : Table) → Fin (tcTables nBuf tb) → BufTy
  | .hbm, ⟨0, _⟩ => ⟨S8x512x512, .bf16⟩
  | .hbm, ⟨1, _⟩ => ⟨S8x512x512, .f32⟩
  | .hbm, ⟨2, _⟩ => ⟨S_, .f32⟩
  | .hbm, ⟨3, _⟩ => ⟨S512x512, .f32⟩
  | .hbm, ⟨4, _⟩ => ⟨S512x512, .bf16⟩
  | _, _ => ⟨S8x512x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.KernelIdeal.Blocks.lean ====
/-
The blocks the kernel moves, and what each of its buffers holds.

Each device cuts its copy of `x` (512 rows) into eight blocks of 64 rows. Block `q` of device `c` goes to slot `c`
of device `q`'s receive buffer; device `q` adds the eight slots and sends the sum, block `q` of the result, to
everybody. The contents of every buffer are given here as one function of the launch memory, so that a block landed
by a copy and the same block written locally are stated by the same function.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.Ring
public import Idealize.ShloMosaic.Lib.ValueLayout

@[expose] public section

noncomputable section

namespace Cert.KernelIdeal.AllReduce

open Cert.KernelIdeal Cert.KernelIdeal.Gen
open Idealize.ShloMosaic Idealize.ShloMosaic.TcCoe Idealize.ShloMosaic.ValueIdx
open Idealize.SL Idealize.SL.Sem

variable {F : FTy → Type} [FloatOps F]

/-! ## Partners -/

set_option backward.proofsInPublic true in
/-- The device `c` exchanges with at offset `d`: the exclusive or of the two numbers. -/
def par (c : Dev nD) (d : Fin 8) : Dev nD := ⟨(c.val ^^^ d.val) % 8, Nat.mod_lt _ (by decide)⟩

/-- Exchanging twice at the same offset leads back. -/
theorem par_par (c : Dev nD) (d : Fin 8) : par (par c d) d = c := by revert c d; decide
/-- Offset zero is the device itself, -/
theorem par_self (c : Dev nD) : par c 0 = c := by revert c; decide
/-- and no other offset is. -/
theorem par_eq_self_iff (c : Dev nD) (d : Fin 8) : par c d = c ↔ d = 0 := by revert c d; decide
/-- Different offsets are different partners. -/
theorem par_inj (c : Dev nD) (d d' : Fin 8) : par c d = par c d' ↔ d = d' := by revert c d d'; decide

/-- At a fixed offset the devices pair up. -/
def flip (d : Fin 8) : Dev nD ≃ Dev nD := ⟨fun c => par c d, fun c => par c d, fun c => par_par c d, fun c => par_par c d⟩

set_option backward.proofsInPublic true in
/-- The offsets' numbers and the partners' are in bijection, on each device. -/
def spread (c : Dev nD) : Fin 8 ≃ Fin 8 :=
  ⟨fun d => par c d, fun p => par c p, fun d => by revert c d; decide, fun d => by revert c d; decide⟩

/-! ## The memrefs -/

/-- The staged shard. -/
abbrev xM : Memref sig .tc .vmem S1x512x512 .bf16 := Memref.whole cc0_stg0_0
/-- The staged result. -/
abbrev oM : Memref sig .tc .vmem S512x512 .bf16 := Memref.whole cc0_stg1_0
/-- The working copy of the shard. -/
abbrev bM : Memref sig .tc .vmem S512x512 .bf16 := Memref.whole cc0_scratch0
/-- The receive buffer. -/
abbrev rM : Memref sig .tc .vmem S8x64x512 .bf16 := Memref.whole cc0_scratch1

/-- Each block of 64 rows lies inside its buffer, -/
theorem rows_inb (q : Fin 8) : ∀ a : Fin 2, (![64 * q.val, 0] : Fin 2 → ℕ) a + S64x512.size a ≤ S512x512.size a := by
  revert q; decide
/-- and each slot inside the receive buffer. -/
theorem slot_inb (p : Fin 8) : ∀ a : Fin 3, (![p.val, 0, 0] : Fin 3 → ℕ) a + S1x64x512.size a ≤ S8x64x512.size a := by
  revert p; decide

/-- Rows `64 q` to `64 q + 63` of a 512 × 512 buffer. -/
abbrev rowsR (q : Fin 8) : Rect S512x512 := Rect.unit (s := S512x512) ![64 * q.val, 0] S64x512.size (rows_inb q)
/-- Slot `p` of the receive buffer. -/
abbrev slotR (p : Fin 8) : Rect S8x64x512 := Rect.unit (s := S8x64x512) ![p.val, 0, 0] S1x64x512.size (slot_inb p)

/-- Block `q` of the working copy. -/
abbrev bBlk (q : Fin 8) : Memref sig .tc .vmem S64x512 .bf16 := bM.slice (rowsR q) (fun _ => rfl)
/-- Block `q` of the result. -/
abbrev oBlk (q : Fin 8) : Memref sig .tc .vmem S64x512 .bf16 := oM.slice (rowsR q) (fun _ => rfl)
/-- Slot `p` of the receive buffer, as a block of 64 rows. -/
abbrev rSlot (p : Fin 8) : Memref sig .tc .vmem S64x512 .bf16 :=
  (rM.slice (slotR p) (fun _ => rfl)).squeeze S64x512 squeezes_S1x64x512_S64x512

/-- Row `r` of block `q` is one of the 512 rows. -/
theorem row_lt (q : Fin 8) (r : Fin 64) : 64 * q.val + r.val < 512 := by have := q.isLt; have := r.isLt; omega

/-- Where row `r` of block `q` lies in the buffer. -/
theorem emb_rowsR (q : Fin 8) (r : Fin 64) (j : Fin 512) : (rowsR q).emb (ix2 r j) = ix2 ⟨64 * q.val + r.val, row_lt q r⟩ j := by
  funext a
  match a with
  | ⟨0, _⟩ => exact Fin.ext (show 64 * q.val + 1 * r.val = 64 * q.val + r.val by omega)
  | ⟨1, _⟩ => exact Fin.ext (show 0 + 1 * j.val = j.val by omega)

/-- Where row `r` of slot `p` lies in the receive buffer, -/
theorem emb_slotR (p : Fin 8) (u : Fin 1) (r : Fin 64) (j : Fin 512) : (slotR p).emb (ix3 u r j) = ix3 p r j := by
  have hu : u.val = 0 := by omega
  funext a
  match a with
  | ⟨0, _⟩ => exact Fin.ext (show p.val + 1 * u.val = p.val by omega)
  | ⟨1, _⟩ => exact Fin.ext (show 0 + 1 * r.val = r.val by omega)
  | ⟨2, _⟩ => exact Fin.ext (show 0 + 1 * j.val = j.val by omega)

/-- the same for the slot seen as a block. -/
theorem emb_rSlot (p : Fin 8) (r : Fin 64) (j : Fin 512) : (rSlot p).view.emb (ix2 r j) = ix3 p r j := by
  show (slotR p).emb (Shape.reshapeEquiv _ (ix2 r j)) = _
  rw [reshapeEquiv_ix2_1ab]; exact emb_slotR p _ r j

/-! ## The blocks tile their buffers -/

/-- A block of the working copy covers its rows, -/
theorem set_bBlk (q : Fin 8) : (bBlk q).view.set = (rowsR q).set := View.set_slice_whole _ _
/-- a block of the result likewise, -/
theorem set_oBlk (q : Fin 8) : (oBlk q).view.set = (rowsR q).set := View.set_slice_whole _ _
/-- and a slot covers its part of the receive buffer. -/
theorem set_rSlot (p : Fin 8) : (rSlot p).view.set = (slotR p).set :=
  (View.set_reshape _ _).trans (View.set_slice_whole _ _)

/-- Two blocks share no entry, -/
theorem rows_disjoint (b b' : Fin 8) (h : b ≠ b') : Disjoint (rowsR b).set (rowsR b').set :=
  Ring.lead_disjoint (s := S512x512) (NB := 8) 0 64 (fun q => ![64 * q.val, 0]) S64x512.size rows_inb (fun _ => rfl) rfl b b' h
/-- and the eight of them are everything. -/
theorem rows_cover : Finset.univ.biUnion (fun q => (rowsR q).set) = Finset.univ :=
  Ring.lead_cover (s := S512x512) (NB := 8) 0 64 (fun q => ![64 * q.val, 0]) S64x512.size rows_inb (fun _ => rfl)
    (fun b a h => by fin_cases a <;> first | rfl | exact absurd rfl h) rfl (fun a h => by fin_cases a <;> first | rfl | exact absurd rfl h) (by decide)
/-- Two slots share no entry, -/
theorem slots_disjoint (b b' : Fin 8) (h : b ≠ b') : Disjoint (slotR b).set (slotR b').set :=
  Ring.lead_disjoint (s := S8x64x512) (NB := 8) 0 1 (fun p => ![p.val, 0, 0]) S1x64x512.size slot_inb (fun b => (Nat.one_mul _).symm) rfl b b' h
/-- and the eight of them are everything. -/
theorem slots_cover : Finset.univ.biUnion (fun p => (slotR p).set) = Finset.univ :=
  Ring.lead_cover (s := S8x64x512) (NB := 8) 0 1 (fun p => ![p.val, 0, 0]) S1x64x512.size slot_inb (fun b => (Nat.one_mul _).symm)
    (fun b a h => by fin_cases a <;> first | rfl | exact absurd rfl h) rfl (fun a h => by fin_cases a <;> first | rfl | exact absurd rfl h) (by decide)

/-! ## Contents -/

variable (m : (ℓ : Loc nD τ sig) → Buf (Elt F) ℓ)

/-- What the pipeline stages on device `c`: its shard of `x`. -/
def xstg (c : Dev nD) : (cc0_stg0_0 : Ref sig .tc).ty.Contents (Elt F) :=
  (win0_0.blk (0 : Fin 1)).view.read (Elt F) (m ((c : Thread nD τ).loc main_arg0))

/-- Device `c`'s working copy of its shard. -/
def copyF (c : Dev nD) : (cc0_scratch0 : Ref sig .tc).ty.Contents (Elt F) := k0_pay1 (xstg m c)

/-- Device `c`'s receive buffer when full: slot `p` holds block `c` of device `p`'s copy. -/
def recvF (c : Dev nD) : (cc0_scratch1 : Ref sig .tc).ty.Contents (Elt F) :=
  fun i : S8x64x512.Idx => copyF m (i 0) (ix2 ⟨64 * c.val + (i 1).val, row_lt c (i 1)⟩ (i 2))

/-- Slot `p` of it, as the load hands it over. -/
def slotF (c : Dev nD) (p : Fin 8) : Vec F S1x64x512 .bf16 :=
  fun i => copyF m p (ix2 ⟨64 * c.val + (i 1).val, row_lt c (i 1)⟩ (i 2))

/-- The sum of the eight slots on device `c`: block `c` of the result. -/
def sumF (c : Dev nD) : FVec F S64x512 .bf16 :=
  k0_pay3 (slotF m c 0) (slotF m c 1) (slotF m c 2) (slotF m c 3) (slotF m c 4) (slotF m c 5) (slotF m c 6) (slotF m c 7)

/-- The block that a row is in, -/
theorem blk_lt (i : Fin 512) : i.val / 64 < 8 := by have := i.isLt; omega
/-- and its place there. -/
theorem off_lt (i : Fin 512) : i.val % 64 < 64 := Nat.mod_lt _ (by decide)

/-- The result, the same on every device: block `q` is the sum device `q` made. -/
def outF : (cc0_stg1_0 : Ref sig .tc).ty.Contents (Elt F) :=
  fun i : S512x512.Idx => sumF m ⟨(i 0).val / 64, blk_lt (i 0)⟩ (ix2 ⟨(i 0).val % 64, off_lt (i 0)⟩ (i 1))

/-! ## What a copy, a load or a store makes of them -/

omit [FloatOps F] in
/-- Copying what a view reads back through the same view's placement leaves the contents on the view as they were. -/
theorem write_read_self {κ : Kind} {sp : Space} {s : Shape} {e : EltTy} (v : View sig κ sp s e) (f g : v.ty.Contents (Elt F)) :
    ∀ i ∈ v.set, v.write (Elt F) f (v.read (Elt F) g) Finset.univ i = g i := by
  intro i hi
  obtain ⟨x, -, rfl⟩ := Finset.mem_map.mp hi
  rw [View.write_emb_of_mem _ _ (Finset.mem_univ x), View.read_apply, cast_cast, cast_eq]

/-- Block `q` of device `c`'s copy, landed in slot `c` of device `q`. -/
theorem landed_slot (c q : Dev nD) (fd : (rSlot c).view.ty.Contents (Elt F)) :
    ∀ i ∈ (rSlot c).view.set, (rSlot c).view.write (Elt F) fd ((bBlk q).view.read (Elt F) (copyF m c)) Finset.univ i = recvF m q i := by
  intro i hi
  obtain ⟨x, -, rfl⟩ := Finset.mem_map.mp hi
  rw [View.write_emb_of_mem _ _ (Finset.mem_univ x)]
  obtain ⟨r, j, rfl⟩ : ∃ r j, x = ix2 r j := ⟨x 0, x 1, eq_ix2 x⟩
  rw [emb_rSlot]
  show copyF m c ((rowsR q).emb (ix2 r j)) = _
  rw [emb_rowsR]; rfl

/-- Device `c`'s own block, stored in its own slot. -/
theorem stored_slot (c : Dev nD) (fd : (rM.access (slotR c)).ty.Contents (Elt F)) :
    ∀ i ∈ (rM.access (slotR c)).set,
      (rM.access (slotR c)).write (Elt F) fd (k0_pay2 (bM.view.readAt (Elt F) (rowsR c).toLoadRect (copyF m c))) Finset.univ i = recvF m c i := by
  intro i hi
  obtain ⟨x, -, rfl⟩ := Finset.mem_map.mp hi
  refine (View.write_emb_of_mem _ _ (Finset.mem_univ x)).trans ((cast_eq _ _).trans ?_)
  obtain ⟨u, r, j, rfl⟩ : ∃ u r j, x = ix3 u r j := ⟨x 0, x 1, x 2, eq_ix3 x⟩
  have hi : (rM.access (slotR c)).emb (ix3 u r j) = ix3 c r j := emb_slotR c u r j
  rw [hi]
  unfold k0_pay2
  rw [shapeCast_self, shapeCast_ab_1ab_apply]
  show copyF m c ((rowsR c).emb (ix2 r j)) = _
  rw [emb_rowsR]; rfl

/-- A load of slot `p`. -/
theorem load_slot (c : Dev nD) (p : Fin 8) : rM.view.readAt (Elt F) (slotR p).toLoadRect (recvF m c) = slotF m c p := by
  funext x
  obtain ⟨u, r, j, rfl⟩ : ∃ u r j, x = ix3 u r j := ⟨x 0, x 1, x 2, eq_ix3 x⟩
  show recvF m c ((slotR p).emb (ix3 u r j)) = _
  rw [emb_slotR]; rfl

/-- The sum, stored in block `c` of the result. -/
theorem stored_rows (c : Dev nD) (fd : (oM.access (rowsR c)).ty.Contents (Elt F)) :
    ∀ i ∈ (oM.access (rowsR c)).set, (oM.access (rowsR c)).write (Elt F) fd (sumF m c) Finset.univ i = outF m i := by
  intro i hi
  obtain ⟨x, -, rfl⟩ := Finset.mem_map.mp hi
  rw [View.write_emb_of_mem _ _ (Finset.mem_univ x)]
  obtain ⟨r, j, rfl⟩ : ∃ r j, x = ix2 r j := ⟨x 0, x 1, eq_ix2 x⟩
  show sumF m c (ix2 r j) = outF m ((rowsR c).emb (ix2 r j))
  rw [emb_rowsR]
  unfold outF
  have hc : (⟨(64 * c.val + r.val) / 64, blk_lt ⟨64 * c.val + r.val, row_lt c r⟩⟩ : Fin 8) = c := Fin.ext (by have := r.isLt; show (64 * c.val + r.val) / 64 = c.val; omega)
  have hr : (⟨(64 * c.val + r.val) % 64, off_lt ⟨64 * c.val + r.val, row_lt c r⟩⟩ : Fin 64) = r := Fin.ext (by have := r.isLt; show (64 * c.val + r.val) % 64 = r.val; omega)
  show sumF m c (ix2 r j) = sumF m ⟨(64 * c.val + r.val) / 64, _⟩ (ix2 ⟨(64 * c.val + r.val) % 64, _⟩ j)
  rw [hc, hr]

/-- The origin of a matrix, -/
theorem zero2 : (![0, 0] : Fin 2 → ℕ) = fun _ => 0 := by funext a; fin_cases a <;> rfl
/-- and of a stack of matrices. -/
theorem zero3 : (![0, 0, 0] : Fin 3 → ℕ) = fun _ => 0 := by funext a; fin_cases a <;> rfl

omit [FloatOps F] in
/-- The load of the staged shard reads it whole, -/
theorem load_x (f : (cc0_stg0_0 : Ref sig .tc).ty.Contents (Elt F)) (inb : ∀ a, (![0, 0, 0] : Fin 3 → ℕ) a + S1x512x512.size a ≤ S1x512x512.size a) :
    xM.view.readAt (Elt F) (Rect.unit (s := S1x512x512) ![0, 0, 0] S1x512x512.size inb).toLoadRect f = f :=
  Memref.readAt_unit_zero (Elt F) cc0_stg0_0 zero3 _ f
omit [FloatOps F] in
/-- and the store of the copy writes it whole. -/
theorem store_copy (f w : (cc0_scratch0 : Ref sig .tc).ty.Contents (Elt F)) (inb : ∀ a, (![0, 0] : Fin 2 → ℕ) a + S512x512.size a ≤ S512x512.size a) :
    (bM.access (Rect.unit (s := S512x512) ![0, 0] S512x512.size inb) : View sig .tc _ _ _).write (Elt F) f w Finset.univ = w :=
  Memref.write_access_unit_zero_univ (Elt F) cc0_scratch0 zero2 _ f w

end Cert.KernelIdeal.AllReduce

end
-- ==== Proof.KernelIdeal.Sched.lean ====
/-
The schedule: which semaphores the devices meet on, who pays what into each of them, and what comes with the payment.

Every semaphore is used for one round. A device's barrier is paid one unit by each of its seven partners, and with the
unit the partner hands over the two places it lets this device write to. A send semaphore is paid when the block has
left, and gives the block back; a receive semaphore is paid when the block has landed, and gives the landed block.
-/
module

public import proofs.«01_k».proof.Proof.KernelIdeal.Blocks
public import Idealize.ShloMosaic.Lib.SparseCore.Stream

@[expose] public section

noncomputable section

namespace Cert.KernelIdeal.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The state of the schedule's rounds, -/
abbrev UB : Type := URounds (GSem nD τ sig) (Fin 8)
/-- beside the pipeline's. -/
abbrev UU : Type := UR sig nD τ × UB

local notation "𝕄" => MT nD τ sig Unit (Elt F) ℕ UU ℕ

/-- Where the pipeline's state sits, -/
abbrev EP : Emb (UR sig nD τ) (MT nD τ sig Unit (Elt F) ℕ UU ℕ) := embL
/-- and where the schedule's does. -/
abbrev ER : Emb UB (MT nD τ sig Unit (Elt F) ℕ UU ℕ) := embR

variable (m : (ℓ : Loc nD τ sig) → Buf (Elt F) ℓ)

/-! ## The semaphores -/

/-- The runtime's barrier semaphore. -/
abbrev barS : Sem sig := (SemArray.scalar (sig.barrier 0 rfl) : Sems sig S_).sem

set_option backward.proofsInPublic true in
/-- The kernel's own: send (0) and receive (1) of the first exchange, send (2) and receive (3) of the second, eight of each. -/
def dsem (k : Fin 4) (j : Fin 8) : DmaSem sig := ⟨2 + 8 * k.val + j.val, by revert k j; decide⟩

set_option backward.proofsInPublic true in
/-- Which of them a DMA semaphore is; the pipeline's two are none. -/
def keyOf (q : DmaSem sig) : Option (Fin 4 × Fin 8) :=
  if h : 2 ≤ q.val then some (⟨(q.val - 2) / 8 % 4, Nat.mod_lt _ (by decide)⟩, ⟨(q.val - 2) % 8, Nat.mod_lt _ (by decide)⟩) else none

/-- A semaphore's key names it. -/
theorem keyOf_dsem (k : Fin 4) (j : Fin 8) : keyOf (dsem k j) = some (k, j) := by revert k j; decide

/-- All of a device's semaphores: the barrier and its own. -/
abbrev Key : Type := Option (Fin 4 × Fin 8)
/-- The kernel's own semaphores. -/
abbrev osem : Fin 4 × Fin 8 → SemLoc sig := fun k => .dma (dsem k.1 k.2)
/-- The semaphore that a key names. -/
def csem : Key → SemLoc sig
  | none => .reg barS
  | some k => osem k
/-- Different keys are different semaphores. -/
theorem csem_injective : Function.Injective csem := by
  intro k k' h
  match k, k', h with
  | none, none, _ => rfl
  | none, some k', h => exact absurd h (fun h' => by cases h')
  | some k, none, h => exact absurd h (fun h' => by cases h')
  | some k, some k', h =>
    have h1 : dsem k.1 k.2 = dsem k'.1 k'.2 := SemLoc.dma.inj h
    have h2 := congrArg keyOf h1
    rw [keyOf_dsem, keyOf_dsem] at h2
    exact h2

/-- Device `c`'s barrier semaphore. -/
abbrev barCell (c : Dev nD) : GSem nD τ sig := ((c : Thread nD τ), .reg barS)
/-- Device `c`'s semaphore `j` of kind `k`. -/
abbrev cell (c : Dev nD) (k : Fin 4) (j : Fin 8) : GSem nD τ sig := ((c : Thread nD τ), .dma (dsem k j))
/-- The semaphore of a device that a key names. -/
abbrev kcell (ck : Dev nD × Key) : GSem nD τ sig := ((ck.1 : Thread nD τ), csem ck.2)

/-- Different devices or keys are different semaphores. -/
theorem kcell_injective : Function.Injective kcell := by
  rintro ⟨c, k⟩ ⟨c', k'⟩ h
  have h1 : c = c' := congrArg (fun g : GSem nD τ sig => g.1.1) h
  have h2 : csem k = csem k' := congrArg Prod.snd h
  rw [h1, csem_injective h2]

/-- What one block's copy credits. -/
def N : ℕ := (rSlot 0).view.dmaCredit
/-- A block is not empty. -/
theorem N_pos : 0 < N := View.dmaCredit_pos _ (by decide)

/-- The seven offsets. -/
abbrev offs : Finset (Fin 8) := Finset.univ.erase 0

/-! ## What the semaphores carry -/

/-- Rows block `q` of device `c`'s copy. -/
def copyP (c : Dev nD) (q : Fin 8) (f : (cc0_scratch0 : Ref sig .tc).ty.Contents (Elt F)) : sProp 𝕄 :=
  (bBlk q).view.loc (c : Thread nD τ) ↦[(bBlk q).view.set]{fullShare} f
/-- Slot `p` of device `c`'s receive buffer. -/
def slotP (c : Dev nD) (p : Fin 8) (f : (cc0_scratch1 : Ref sig .tc).ty.Contents (Elt F)) : sProp 𝕄 :=
  (rSlot p).view.loc (c : Thread nD τ) ↦[(rSlot p).view.set]{fullShare} f
/-- A share of rows block `q` of device `c`'s staged result. -/
def outP (c : Dev nD) (q : Fin 8) (sh : PosShare TreeShare) (f : (cc0_stg1_0 : Ref sig .tc).ty.Contents (Elt F)) : sProp 𝕄 :=
  (oBlk q).view.loc (c : Thread nD τ) ↦[(oBlk q).view.set]{sh} f

/-- One eighth of a share: device `c` lends one to each of the seven copies of its block of the result. -/
abbrev eighth (d : Fin 8) : PosShare TreeShare := pieceOf fullShare 8 (by decide) d

/-- Somewhere on device `c` for its partner `q` to write to: slot `q` of its receive buffer and block `q` of its result. -/
def lendP (c : Dev nD) (q : Fin 8) : sProp 𝕄 := iprop((∃ f, slotP (F := F) c q f) ∗ (∃ f, outP (F := F) c q fullShare f))

/-- What the kernel's own semaphore `(k, j)` of device `c` gives back. -/
def givesP (c : Dev nD) (kj : Fin 4 × Fin 8) : sProp 𝕄 :=
  match kj.1 with
  | 0 => copyP c (par c kj.2) (copyF m c)
  | 1 => slotP c kj.2 (recvF m c)
  | 2 => outP c c (eighth kj.2) (outF m)
  | 3 => outP c kj.2 fullShare (outF m)

instance copyP_storable (c : Dev nD) (q) (f) : BI.Storable (upEmb : UEmb _ 𝕄) (copyP (F := F) c q f) := by unfold copyP; infer_instance
instance slotP_storable (c : Dev nD) (q) (f) : BI.Storable (upEmb : UEmb _ 𝕄) (slotP (F := F) c q f) := by unfold slotP; infer_instance
instance outP_storable (c : Dev nD) (q) (sh) (f) : BI.Storable (upEmb : UEmb _ 𝕄) (outP (F := F) c q sh f) := by unfold outP; infer_instance
instance lendP_storable (c : Dev nD) (q) : BI.Storable (upEmb : UEmb _ 𝕄) (lendP (F := F) c q) := by unfold lendP; infer_instance
instance givesP_storable (c : Dev nD) (kj) : BI.Storable (upEmb : UEmb _ 𝕄) (givesP m c kj) := by
  unfold givesP; split <;> infer_instance

/-- The kernel's own semaphores that are used: the send ones at the seven offsets, the receive ones of the seven other devices. -/
def used (c : Dev nD) (kj : Fin 4 × Fin 8) : Bool :=
  if kj.1 = 0 ∨ kj.1 = 2 then decide (kj.2 ≠ 0) else decide (kj.2 ≠ c)

/-- The schedule: every semaphore has one round, in which each payment hands over its part. -/
def rd : Rounds.Schedule (GSem nD τ sig) (Fin 8) 𝕄 where
  duties g r := if r = 0 ∧ g.1.2 = .tc then
      (match g.2 with
        | .reg s => if s = barS then offs else ∅
        | .dma q => match keyOf q with
          | some kj => if used g.1.1 kj then {0} else ∅
          | none => ∅)
    else ∅
  unitless _ := False
  amount g _ _ := match g.2 with
    | .reg _ => 1
    | .dma _ => N
  payload g _ d := match g.2 with
    | .reg _ => lendP (par g.1.1 d) g.1.1
    | .dma q => match keyOf q with
      | some kj => givesP m g.1.1 kj
      | none => iprop(emp)
  amount_pos g _ _ _ := by
    obtain ⟨t, sm⟩ := g
    cases sm with
    | reg s => exact Nat.one_pos
    | dma q => exact N_pos

instance rd_payload_storable (g : GSem nD τ sig) (r : ℕ) (d : Fin 8) :
    BI.Storable (upEmb : UEmb _ 𝕄) ((rd m).payload g r d) := by
  unfold rd
  dsimp only
  (repeat' split) <;> infer_instance

section Sched
variable (c : Dev nD) (k : Fin 4) (j : Fin 8)

/-- The barrier is paid once per offset; -/
theorem duties_bar : (rd m).duties (barCell c) 0 = offs := by
  dsimp only [rd]; rw [if_pos ⟨rfl, rfl⟩, if_pos rfl]
/-- a semaphore in use once; -/
theorem duties_cell : (rd m).duties (cell c k j) 0 = if used c (k, j) then {0} else ∅ := by
  dsimp only [rd]; rw [if_pos ⟨rfl, rfl⟩, keyOf_dsem]
/-- nothing is paid after the first round, -/
theorem duties_later (g : GSem nD τ sig) : ∀ r, 1 ≤ r → (rd m).duties g r = ∅ :=
  fun r hr => by dsimp only [rd]; rw [if_neg fun h => by omega]
/-- nor ever where no copy comes. -/
theorem duties_unused (h : used c (k, j) = false) : ∀ r, 0 ≤ r → (rd m).duties (cell c k j) r = ∅ := fun r _ => by
  rcases Nat.eq_zero_or_pos r with rfl | hr
  · rw [duties_cell, h]; rfl
  · exact duties_later m _ r hr

/-- A signal pays one, -/
theorem amount_bar (d : Fin 8) : (rd m).amount (barCell c) 0 d = 1 := rfl
/-- a copy a block's bytes. -/
theorem amount_cell (d : Fin 8) : (rd m).amount (cell c k j) 0 d = N := rfl

/-- A signal lends the places that its receiver writes to, -/
theorem payload_bar (d : Fin 8) : (rd m).payload (barCell c) 0 d = lendP (par c d) c := rfl
/-- and a copy hands over what it carries. -/
theorem payload_cell (d : Fin 8) : (rd m).payload (cell c k j) 0 d = givesP m c (k, j) := by
  dsimp only [rd]; rw [keyOf_dsem]

/-- The barrier waits for seven, -/
theorem expect_bar : (rd m).expect (barCell c) 0 = 7 := by
  unfold Schedule.expect Schedule.amountOf
  rw [duties_bar, Finset.sum_congr rfl fun d _ => amount_bar m c d]; decide
/-- any other wait for one block. -/
theorem expect_cell (h : used c (k, j) = true) : (rd m).expect (cell c k j) 0 = N := by
  unfold Schedule.expect Schedule.amountOf; rw [duties_cell, h, if_pos rfl, Finset.sum_singleton, amount_cell]

/-- So the barrier's wait receives all seven lendings, -/
theorem rest_bar : bigSep ((rd m).duties (barCell c) 0 \ ∅) (fun d => (rd m).payload (barCell c) 0 d) = bigSep offs fun d => lendP (F := F) (par c d) c := by
  rw [Finset.sdiff_empty, duties_bar]; rfl
/-- and any other wait the one payload. -/
theorem rest_cell (h : used c (k, j) = true) : bigSep ((rd m).duties (cell c k j) 0 \ ∅) (fun d => (rd m).payload (cell c k j) 0 d) = givesP m c (k, j) := by
  rw [Finset.sdiff_empty, duties_cell, h, if_pos rfl, bigSep_singleton, payload_cell]

end Sched

/-! ## What each device owes at launch, and the order the semaphores are waited in -/

/-- The signals that device `c` owes at the offsets `A`. -/
def owB (c : Dev nD) (A : Finset (Fin 8)) : CellTallies nD τ sig Unit := ∑ d ∈ A, tallyAt (barCell (par c d)) () 1
/-- A landing on receive semaphore `c` of each partner, of the first exchange (`k = 1`) or the second (`k = 3`). -/
def owR (k : Fin 4) (c : Dev nD) (A : Finset (Fin 8)) : CellTallies nD τ sig Unit := ∑ d ∈ A, tallyAt (cell (par c d) k c) () N

/-- All that device `c` owes at launch: two landings and one signal per partner. -/
def O₀ (c : Dev nD) : CellTallies nD τ sig Unit := owR 3 c offs + owR 1 c offs + owB c offs

/-- One signal less is owed, -/
theorem owB_erase (c : Dev nD) {A : Finset (Fin 8)} {d : Fin 8} (h : d ∈ A) : owB c A = owB c (A.erase d) + tallyAt (barCell (par c d)) () 1 :=
  (Finset.sum_erase_add _ _ h).symm
/-- or one landing. -/
theorem owR_erase (k : Fin 4) (c : Dev nD) {A : Finset (Fin 8)} {d : Fin 8} (h : d ∈ A) : owR k c A = owR k c (A.erase d) + tallyAt (cell (par c d) k c) () N :=
  (Finset.sum_erase_add _ _ h).symm
/-- Nothing is left owed, -/
theorem owB_empty (c : Dev nD) : owB c ∅ = 0 := Finset.sum_empty
/-- here too. -/
theorem owR_empty (k : Fin 4) (c : Dev nD) : owR k c ∅ = 0 := Finset.sum_empty

/-- The levels are those of the TensorCores' semaphores. -/
def L (g : GSem nD τ sig) : Finset Unit := if g.1.2 = .tc then {()} else ∅
/-- Barriers at 1, the receives of the first exchange at 2, of the second at 3, everything else at 0. -/
def lv (g : GSem nD τ sig) (_ : Unit) : ℕ :=
  match g.2 with
  | .reg _ => 1
  | .dma q => match keyOf q with
    | some kj => if kj.1 = 1 then 2 else if kj.1 = 3 then 3 else 0
    | none => 0

/-- No other core has one, -/
theorem L_of_ne (g : GSem nD τ sig) (h : g.1.2 ≠ .tc) : L g = ∅ := if_neg h
/-- and each TensorCore's has its own. -/
theorem L_tc (c : Dev nD) (sm : SemLoc sig) : L ((c : Thread nD τ), sm) = {()} := if_pos rfl
/-- The barrier is below both exchanges, -/
theorem lv_bar (c : Dev nD) : lv (barCell c) () = 1 := rfl
/-- and the first exchange below the second; the send semaphores are below everything. -/
theorem lv_cell (c : Dev nD) (k : Fin 4) (j : Fin 8) : lv (cell c k j) () = if k = 1 then 2 else if k = 3 then 3 else 0 := by
  unfold lv; dsimp only; rw [keyOf_dsem]

/-- Something owed in a sum is owed in one of its terms. -/
theorem sum_pos {g : GSem nD τ sig} {u : Unit} (A : Finset (Fin 8)) (G : Fin 8 → GSem nD τ sig) (n : ℕ)
    (h : 0 < (∑ d ∈ A, (tallyAt (G d) () n : CellTallies nD τ sig Unit)) g u) : ∃ d ∈ A, g = G d := by
  classical
  by_contra hn
  have h0 : (∑ d ∈ A, (tallyAt (G d) () n : CellTallies nD τ sig Unit)) g u = 0 := by
    rw [Finset.sum_apply, Finsupp.finset_sum_apply]
    refine Finset.sum_eq_zero fun d hd => ?_
    rw [tallyAt_apply, if_neg fun h' => hn ⟨d, hd, h'.1⟩]
  omega

/-- What is owed is owed to a barrier or to a receive semaphore. -/
theorem owB_pos {c : Dev nD} {A} {g : GSem nD τ sig} {u : Unit} (h : 0 < owB c A g u) : ∃ c', g = barCell c' :=
  let ⟨d, _, e⟩ := sum_pos A _ _ h; ⟨_, e⟩
/-- A landing owed is owed to a receive semaphore. -/
theorem owR_pos {k : Fin 4} {c : Dev nD} {A} {g : GSem nD τ sig} {u : Unit} (h : 0 < owR k c A g u) : ∃ c' j, g = cell c' k j :=
  let ⟨d, _, e⟩ := sum_pos A _ _ h; ⟨_, _, e⟩

/-- What is owed in two parts together is owed in one of them. -/
theorem add_pos_cases {O O' : CellTallies nD τ sig Unit} {g : GSem nD τ sig} {u : Unit} (h : 0 < (O + O') g u) : 0 < O g u ∨ 0 < O' g u := by
  rw [Pi.add_apply, Finsupp.add_apply] at h; omega

/-- A device may wait on a semaphore of a lower level than everything it still owes. -/
theorem mayWait_below (c : Dev nD) (sm : SemLoc sig) (n : ℕ) (hn : lv ((c : Thread nD τ), sm) () ≤ n) (O : CellTallies nD τ sig Unit)
    (h : ∀ g u, 0 < O g u → g.1.2 = .tc ∧ n < lv g ()) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by unfold L; rw [if_pos (h g u hg).1]; exact Finset.mem_singleton_self _)
    (fun p hp => by rw [Finset.mem_singleton.mp hp]; exact hn)
    (fun g u hg => (h g u hg).2)

/-- Owing nothing, a device may wait for anything. -/
theorem mayWait_none (c : Dev nD) (sm : SemLoc sig) : (levAts L lv : sProp 𝕄) ⊢ MayWait (c : Thread nD τ) sm () 0 := by
  rw [MayWait_zero]; iintro -; iempintro

/-- Waiting for the pipeline's own copies, before or after the kernel. -/
theorem mayWait_stage (c : Dev nD) (q : DmaSem sig) (hq : keyOf q = none) (O : CellTallies nD τ sig Unit) (hO : O = O₀ c ∨ O = 0) :
    (levAts L lv : sProp 𝕄) ⊢ MayWait (c : Thread nD τ) (.dma q) () O := by
  rcases hO with rfl | rfl
  · refine mayWait_below c _ 0 (by unfold lv; dsimp only; rw [hq]) _ fun g u h => ?_
    rcases add_pos_cases h with h | h
    · rcases add_pos_cases h with h | h
      · obtain ⟨c', j, rfl⟩ := owR_pos h; exact ⟨rfl, by rw [lv_cell]; decide⟩
      · obtain ⟨c', j, rfl⟩ := owR_pos h; exact ⟨rfl, by rw [lv_cell]; decide⟩
    · obtain ⟨c', rfl⟩ := owB_pos h; exact ⟨rfl, by rw [lv_bar]; decide⟩
  · exact mayWait_none c _

/-- Waiting on the barrier, the signals sent. -/
theorem mayWait_bar (c : Dev nD) : (levAts L lv : sProp 𝕄) ⊢ MayWait (c : Thread nD τ) (.reg barS) () (owR 3 c offs + owR 1 c offs) :=
  mayWait_below c _ 1 (lv_bar c).le _ fun g u h => by
    rcases add_pos_cases h with h | h
    · obtain ⟨c', j, rfl⟩ := owR_pos h; exact ⟨rfl, by rw [lv_cell]; decide⟩
    · obtain ⟨c', j, rfl⟩ := owR_pos h; exact ⟨rfl, by rw [lv_cell]; decide⟩

/-- Waiting for the first exchange to land, its copies started. -/
theorem mayWait_recv (c : Dev nD) (j : Fin 8) : (levAts L lv : sProp 𝕄) ⊢ MayWait (c : Thread nD τ) (.dma (dsem 1 j)) () (owR 3 c offs) :=
  mayWait_below c _ 2 (le_of_eq ((lv_cell c 1 j).trans (by decide))) _ fun g u h => by
    obtain ⟨c', j, rfl⟩ := owR_pos h; exact ⟨rfl, by rw [lv_cell]; decide⟩

end Cert.KernelIdeal.AllReduce

end
-- ==== Proof.KernelIdeal.Steps.lean ====
/-
One step of the kernel at a time: a signal, a copy started, a wait.

Each phase of the kernel does the same thing at the seven offsets, in one fixed order. `St … n` is the state inside a
phase after `n` of them: what is still owed, what the offsets to come have yet to use, and what the offsets done have
obtained. The facts below say, for each kind of step and any offset, that the step leads from `n` to `n + 1`.
-/
module

public import proofs.«01_k».proof.Proof.KernelIdeal.Sched

@[expose] public section

noncomputable section

namespace Cert.KernelIdeal.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- The kernel has no loop to bound. -/
abbrev 𝒱₀ : Variants := Variants.none

/-- Device `c`'s core runs `p` to `Q`. -/
abbrev Runs {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-! ## Families of resources, an index at a time -/

/-- One part taken out of a product, -/
theorem big_erase {I : Type} [DecidableEq I] {s : Finset I} {i : I} (hi : i ∈ s) (Φ : I → sProp 𝕄) :
    bigSep s Φ = iprop(Φ i ∗ bigSep (s.erase i) Φ) := bigSep_erase hi
/-- or put in; -/
theorem big_insert {I : Type} [DecidableEq I] {s : Finset I} {i : I} (hi : i ∉ s) (Φ : I → sProp 𝕄) :
    bigSep (insert i s) Φ = iprop(Φ i ∗ bigSep s Φ) := bigSep_insert hi
/-- the empty product; -/
theorem big_empty {I : Type} [DecidableEq I] (Φ : I → sProp 𝕄) : bigSep ∅ Φ = iprop(emp) := rfl
/-- a single part of it; -/
theorem big_at {I : Type} [DecidableEq I] {s : Finset I} {i : I} (hi : i ∈ s) (Φ : I → sProp 𝕄) : (bigSep s Φ : sProp 𝕄) ⊢ Φ i := bigSep_elim hi
/-- a smaller product. -/
theorem big_sub {I : Type} [DecidableEq I] {s t : Finset I} (h : t ⊆ s) (Φ : I → sProp 𝕄) : (bigSep s Φ : sProp 𝕄) ⊢ bigSep t Φ := bigSep_subset h

/-! ## What all devices share -/

/-- Every semaphore's invariant, and that each is in round 0. -/
def records (K : Dev nD × Key → ℕ) : sProp 𝕄 :=
  iprop((bigSep Finset.univ fun ck : Dev nD × Key => cellInv ER (rd m) (K ck) (kcell ck))
    ∗ bigSep Finset.univ fun ck : Dev nD × Key => reached ER (kcell ck) 0)
instance records_persistent (K : Dev nD × Key → ℕ) : BI.Persistent (records m K) := by unfold records; infer_instance

/-- That and the levels. -/
def ctx (K : Dev nD × Key → ℕ) : sProp 𝕄 := iprop(records m K ∗ levAts L lv)
instance ctx_persistent (K : Dev nD × Key → ℕ) : BI.Persistent (ctx m K) := by unfold ctx; infer_instance

variable (K : Dev nD × Key → ℕ)

/-- The context has each semaphore's invariant, -/
theorem ctx_inv (ck : Dev nD × Key) : ctx m K ⊢ cellInv ER (rd m) (K ck) (kcell ck) := by
  unfold ctx records
  iintro ⟨⟨H, -⟩, -⟩
  iapply (big_at (Finset.mem_univ ck) (fun ck : Dev nD × Key => cellInv ER (rd m) (K ck) (kcell ck))); iexact H
/-- its round, -/
theorem ctx_reached (ck : Dev nD × Key) : ctx m K ⊢ reached ER (kcell ck) 0 := by
  unfold ctx records
  iintro ⟨⟨-, H⟩, -⟩
  iapply (big_at (Finset.mem_univ ck) (fun ck : Dev nD × Key => (reached ER (kcell ck) 0 : sProp 𝕄))); iexact H
/-- and the levels. -/
theorem ctx_lev : ctx m K ⊢ levAts L lv := by
  unfold ctx
  iintro ⟨-, H⟩; iexact H

/-! ## The state inside a phase -/

/-- What device `c` still owes. -/
def owing (c : Dev nD) (O : CellTallies nD τ sig Unit) : sProp 𝕄 := iprop(∃ W, owes (c : Thread nD τ) O W)

/-- The order the offsets are taken in. -/
def order : List (Fin 8) := [6, 2, 5, 7, 1, 3, 4]
/-- The offsets to come after `n` steps, and those done. -/
def todo (n : ℕ) : Finset (Fin 8) := (order.drop n).toFinset
/-- The offsets done after `n` steps. -/
def gone (n : ℕ) : Finset (Fin 8) := (order.take n).toFinset

/-- Step `n` is offset `d`'s. -/
abbrev Nth (n : ℕ) (d : Fin 8) : Prop :=
  d ≠ 0 ∧ d ∈ todo n ∧ d ∉ gone n ∧ (todo n).erase d = todo (n + 1) ∧ insert d (gone n) = gone (n + 1)

/-- At first all are to do, -/
theorem todo_first : todo 0 = offs := by decide
/-- at last none; -/
theorem todo_last : todo 7 = ∅ := by decide
/-- at first none is done, -/
theorem gone_first : gone 0 = ∅ := by decide
/-- at last all. -/
theorem gone_last : gone 7 = offs := by decide

/-- A device in the midst of a row of seven steps: what it owes, and the parts used up and gained so far. -/
def St (c : Dev nD) (O : CellTallies nD τ sig Unit) (In Out : Fin 8 → sProp 𝕄) (n : ℕ) : sProp 𝕄 :=
  iprop(ctx m K ∗ owing c O ∗ bigSep (todo n) In ∗ bigSep (gone n) Out)

/-- A phase begins with nothing done, -/
theorem St_first (c : Dev nD) (O : CellTallies nD τ sig Unit) (In Out : Fin 8 → sProp 𝕄) :
    iprop(ctx m K ∗ owing c O ∗ bigSep offs In) ⊢ St m K c O In Out 0 := by
  unfold St
  rw [todo_first, gone_first, big_empty]
  iintro ⟨H1, H2, H3⟩
  isplitl [H1]; · iexact H1
  isplitl [H2]; · iexact H2
  isplitl [H3]; · iexact H3
  iempintro
/-- and ends with everything done. -/
theorem St_last (c : Dev nD) (O : CellTallies nD τ sig Unit) (In Out : Fin 8 → sProp 𝕄) :
    St m K c O In Out 7 ⊢ iprop(ctx m K ∗ owing c O ∗ bigSep offs Out) := by
  unfold St
  rw [gone_last]
  iintro ⟨H1, H2, -, H3⟩
  isplitl [H1]; · iexact H1
  isplitl [H2] <;> iassumption

/-- One step of such a row. -/
theorem St_step {c : Dev nD} {O O' : CellTallies nD τ sig Unit} {In Out : Fin 8 → sProp 𝕄} {n : ℕ} {d : Fin 8}
    (hn : Nth n d) {P P' R : sProp 𝕄}
    (hop : iprop(ctx m K ∗ owing c O ∗ In d) ⊢ iprop((owing c O' ∗ Out d -∗ P') -∗ P))
    (h : iprop(St m K c O' In Out (n + 1) ∗ R) ⊢ P') : iprop(St m K c O In Out n ∗ R) ⊢ P := by
  obtain ⟨-, hA, hB, hA', hB'⟩ := hn
  unfold St at h ⊢
  rw [big_erase hA]
  rw [← hA', ← hB', big_insert hB] at h
  iintro ⟨⟨#Hc, HO, ⟨Hd, HA⟩, HB⟩, HR⟩
  iapply hop $$ [HO Hd]
  · isplitr; · iexact Hc
    isplitl [HO] <;> iassumption
  iintro ⟨HO, Hd⟩
  iapply h
  isplitr [HR]
  · isplitr; · iexact Hc
    isplitl [HO]; · iexact HO
    isplitl [HA]; · iexact HA
    isplitl [Hd] <;> iassumption
  iexact HR

/-! ## The phases -/

/-- A signal hands partner `d` the places it may write to. -/
def sigIn (c : Dev nD) (d : Fin 8) : sProp 𝕄 := iprop(dutyTok ER (barCell (par c d)) 0 d ∗ lendP (F := F) c (par c d))
/-- What a signal leaves the signaller with: nothing. -/
def sigOut (d : Fin 8) : sProp 𝕄 := iprop(emp)

/-- A copy of the first exchange takes block `par c d` of this device's copy of its shard to slot `c` there. -/
def send1In (c : Dev nD) (d : Fin 8) : sProp 𝕄 :=
  iprop(copyP c (par c d) (copyF m c) ∗ (∃ f, slotP (F := F) (par c d) c f) ∗ dutyTok ER (cell c 0 d) 0 0 ∗ dutyTok ER (cell (par c d) 1 c) 0 0)
/-- A copy of the second takes this device's block of the result to the same place there. -/
def send2In (c : Dev nD) (d : Fin 8) : sProp 𝕄 :=
  iprop(outP c c (eighth d) (outF m) ∗ (∃ f, outP (F := F) (par c d) c fullShare f) ∗ dutyTok ER (cell c 2 d) 0 0 ∗ dutyTok ER (cell (par c d) 3 c) 0 0)
/-- What a copy leaves its sender with: the promise that the source comes back. -/
def sendOut (k : Fin 4) (c : Dev nD) (d : Fin 8) : sProp 𝕄 := cred (tallyAt (cell c k d) () N)

/-- Which of the eight semaphores of kind `k` belongs to offset `d`: a send semaphore by the offset, a receive one by the partner. -/
def semAt (k : Fin 4) (c : Dev nD) (d : Fin 8) : Fin 8 := if k = 0 ∨ k = 2 then d else par c d

/-- The semaphores waited for are in use, -/
theorem used_semAt (k : Fin 4) (c : Dev nD) (d : Fin 8) (h : d ≠ 0) : used c (k, semAt k c d) = true := by
  revert h; revert k c d; decide

/-- so are those that a sender names, -/
theorem used_send (c : Dev nD) (d : Fin 8) (h : d ≠ 0) : used c (0, d) = true ∧ used c (2, d) = true := by
  revert h; revert c d; decide
/-- here and at the partner. -/
theorem used_recv (c : Dev nD) (d : Fin 8) (h : d ≠ 0) : used (par c d) (1, c) = true ∧ used (par c d) (3, c) = true := by
  revert h; revert c d; decide

/-- What a wait takes, -/
def waitIn (k : Fin 4) (c : Dev nD) (d : Fin 8) : sProp 𝕄 :=
  iprop(cred (tallyAt (cell c k (semAt k c d)) () N) ∗ atPos ER (cell c k (semAt k c d)) 0 ∅ 0)
/-- and what it gives. -/
def waitOut (k : Fin 4) (c : Dev nD) (d : Fin 8) : sProp 𝕄 :=
  iprop(atPos ER (cell c k (semAt k c d)) 1 ∅ 0 ∗ givesP m c (k, semAt k c d))

/-! ## The steps -/

section Steps

variable {α : Type} {k : PUnit → Prog (TpuEff nD τ sig (Elt F) Λ₀ .tc) α}
variable (c : Dev nD) (d : Fin 8) (i : ℕ)

/-- One signal to a partner: it lends what the partner writes to. -/
theorem op_signal {Q : α → sProp 𝕄} (hd : d ≠ 0) (O : CellTallies nD τ sig Unit) :
    iprop(ctx m K ∗ owing c (O + tallyAt (barCell (par c d)) () 1) ∗ sigIn c d)
      ⊢ iprop((owing c O ∗ sigOut d -∗ Runs c (k ⟨⟩) Q) -∗ Runs c (.op (.semSignal (par c d : Thread nD τ) barS 1) k) Q) := by
  unfold owing sigIn sigOut
  iintro ⟨#Hc, ⟨%W, HO⟩, Htok, Hpay⟩ Hk
  iapply (Rounds.wp_signal 𝒱₀ ER (rd m) (c : Thread nD τ) none (dst := (par c d : Thread nD τ)) (κ := K (par c d, none)) (r := 0)
      (d := d) (by rw [duties_bar]; exact Finset.mem_erase.mpr ⟨hd, Finset.mem_univ _⟩) (amount_bar m (par c d) d) () O rfl) $$ [HO Htok Hpay]
  · isplitr; · iapply (ctx_inv m K (par c d, none)); iexact Hc
    isplitl [HO]; · iexact HO
    isplitl [Htok]; · iexact Htok
    isplitl [Hpay]; · rw [payload_bar, par_par]; iexact Hpay
    iapply (ctx_reached m K (par c d, none)); iexact Hc
  iintro HO
  iapply Hk
  isplitl [HO]; · iexists W; iexact HO
  iempintro

/-- The same as a step of the row of seven. -/
theorem step_signal {Q : α → sProp 𝕄} {R : sProp 𝕄} (hi : Nth i d) {n : Dev nD} (hn : n = par c d) {a : ℕ} (ha : a = 1)
    (h : iprop(St m K c (owR 3 c offs + owR 1 c offs + owB c (todo (i + 1))) (sigIn c) sigOut (i + 1) ∗ R) ⊢ Runs c (k ⟨⟩) Q) :
    iprop(St m K c (owR 3 c offs + owR 1 c offs + owB c (todo i)) (sigIn c) sigOut i ∗ R)
      ⊢ Runs c (.op (.semSignal (n : Thread nD τ) barS a) k) Q := by
  subst hn ha
  refine St_step m K hi ?_ h
  rw [owB_erase c hi.2.1, ← add_assoc, hi.2.2.2.1]
  exact op_signal m K c d hi.1 _

/-- The barrier's wait: every partner's places are lent. -/
theorem step_barWait {Q : α → sProp 𝕄} {R : sProp 𝕄} {a : ℕ} (ha : a = 7)
    (h : iprop(ctx m K ∗ owing c (owR 3 c offs + owR 1 c offs) ∗ atPos ER (barCell c) 1 ∅ 0 ∗ (bigSep offs fun d => lendP (F := F) (par c d) c) ∗ R) ⊢ Runs c (k ⟨⟩) Q) :
    iprop(ctx m K ∗ owing c (owR 3 c offs + owR 1 c offs) ∗ cred (tallyAt (barCell c) () 7) ∗ atPos ER (barCell c) 0 ∅ 0 ∗ R)
      ⊢ Runs c (.op (.semWait barS a) k) Q := by
  subst ha
  unfold owing at h ⊢
  iintro ⟨#Hc, ⟨%W, HO⟩, Hcr, Hat, HR⟩
  iapply (Rounds.wp_wait_rest_token 𝒱₀ ER (rd m) (c : Thread nD τ) none (κ := K (c, none))
      (wpE_semWait_eq 𝒱₀ (c : Thread nD τ) none Set.univ) (Set.mem_univ _) () (O := owR 3 c offs + owR 1 c offs) (W := W) (R := 0) (m := 0) (T := ∅)
      (by rw [expect_bar])) $$ [HO Hcr Hat]
  · isplitr; · iapply (ctx_inv m K (c, none)); iexact Hc
    isplitl [Hcr]; · iexact Hcr
    isplitl [HO]; · iexact HO
    isplitr; · iapply (mayWait_bar (F := F) c); iapply (ctx_lev m K); iexact Hc
    iexact Hat
  iintro ⟨HO, Hat, -, Hpay⟩
  ihave Hp := (Entails.of_eq (rest_bar m c)) $$ Hpay
  iapply h
  isplitr; · iexact Hc
  isplitl [HO]; · iexists _; iexact HO
  isplitl [Hat]; · iexact Hat
  isplitl [Hp] <;> iassumption

/-- One wait for a copy: its payload arrives. -/
theorem op_wait {Q : α → sProp 𝕄} (kk : Fin 4) (hd : d ≠ 0) (O : CellTallies nD τ sig Unit)
    (hO : (levAts L lv : sProp 𝕄) ⊢ MayWait (c : Thread nD τ) (.dma (dsem kk (semAt kk c d))) () O)
    {src dst : Memref sig .tc .vmem S64x512 .bf16} {hs : src.view.WordExact} {ht : dst.view.WordExact} (hN : dst.view.dmaCredit = N) :
    iprop(ctx m K ∗ owing c O ∗ waitIn kk c d)
      ⊢ iprop((owing c O ∗ waitOut m kk c d -∗ Runs c (k ⟨⟩) Q) -∗ Runs c (.op (.waitDma2 (dsem kk (semAt kk c d)) src dst hs ht) k) Q) := by
  unfold owing waitIn waitOut
  rw [← hN]
  iintro ⟨#Hc, ⟨%W, HO⟩, Hcr, Hat⟩ Hk
  iapply (Rounds.wp_wait_rest_token 𝒱₀ ER (rd m) (c : Thread nD τ) none (κ := K (c, some (kk, semAt kk c d)))
      (wpE_waitDma2_eq 𝒱₀ (c : Thread nD τ) none Set.univ) (Set.mem_univ _) () (O := O) (W := W) (R := 0) (m := 0) (T := ∅)
      (by rw [Nat.zero_add, expect_cell m c kk _ (used_semAt kk c d hd)]; exact hN)) $$ [HO Hcr Hat]
  · isplitr; · iapply (ctx_inv m K (c, some (kk, semAt kk c d))); iexact Hc
    isplitl [Hcr]; · iexact Hcr
    isplitl [HO]; · iexact HO
    isplitr; · iapply hO; iapply (ctx_lev m K); iexact Hc
    iexact Hat
  iintro ⟨HO, Hat, -, Hpay⟩
  ihave Hp := (Entails.of_eq (rest_cell m c kk _ (used_semAt kk c d hd))) $$ Hpay
  iapply Hk
  isplitl [HO]; · iexists _; iexact HO
  isplitl [Hat] <;> iassumption

/-- The same as a step of the row of seven. -/
theorem step_wait {Q : α → sProp 𝕄} {R : sProp 𝕄} (kk : Fin 4) (hi : Nth i d) {O : CellTallies nD τ sig Unit}
    (hO : ∀ j, (levAts L lv : sProp 𝕄) ⊢ MayWait (c : Thread nD τ) (.dma (dsem kk j)) () O)
    {q : DmaSem sig} (hq : q = dsem kk (semAt kk c d))
    {src dst : Memref sig .tc .vmem S64x512 .bf16} {hs : src.view.WordExact} {ht : dst.view.WordExact} (hN : dst.view.dmaCredit = N)
    (h : iprop(St m K c O (waitIn kk c) (waitOut m kk c) (i + 1) ∗ R) ⊢ Runs c (k ⟨⟩) Q) :
    iprop(St m K c O (waitIn kk c) (waitOut m kk c) i ∗ R) ⊢ Runs c (.op (.waitDma2 q src dst hs ht) k) Q := by
  subst hq
  exact St_step m K hi (op_wait m K c d kk hi.1 O (hO _) hN) h

/-- A landing in a slot is worth one block, -/
theorem credit_slot (p : Fin 8) : (rSlot p).view.dmaCredit = N := rfl
/-- and so is one in the result. -/
theorem credit_out (q : Fin 8) : (oBlk q).view.dmaCredit = N := rfl

/-- One copy of the first exchange: a block of the working copy into the partner's slot. -/
theorem op_send1 {Q : α → sProp 𝕄} (hd : d ≠ 0) (O : CellTallies nD τ sig Unit)
    {hsc : (rSlot c : Memref sig (Dev.tc (par c d) : Thread nD τ).2.kind .vmem S64x512 .bf16).view.ref.isScScratch = false}
    {hsrc : (bBlk (par c d)).view.WordExact} {hdst : (rSlot c).view.WordExact}
    {hsem : DmaTarget.Typed .vmem (.dma (dsem 1 c)) (.remote (Dev.tc (par c d) : Thread nD τ) (rSlot c) (.dma (dsem 0 d)) hsc)} :
    iprop(ctx m K ∗ owing c (O + tallyAt (cell (par c d) 1 c) () N) ∗ send1In m c d)
      ⊢ iprop((owing c O ∗ sendOut 0 c d -∗ Runs c (k ⟨⟩) Q)
        -∗ Runs c (.op (.enqueueDma (bBlk (par c d)) (.remote (Dev.tc (par c d) : Thread nD τ) (rSlot c) (.dma (dsem 0 d)) hsc) (.dma (dsem 1 c)) hsrc hdst hsem) k) Q) := by
  have hu0 := (used_send c d hd).1
  have hu1 := (used_recv c d hd).1
  unfold owing send1In sendOut copyP slotP
  iintro ⟨#Hc, ⟨%W, HO⟩, Hsrc, ⟨%fd, Hdst⟩, Ht0, Ht1⟩ Hk
  iapply (Rounds.wp_send_pointsTo 𝒱₀ ER (rd m) (c : Thread nD τ) none (κ₁ := K (c, some (0, d))) (κ₂ := K (par c d, some (1, c)))
    (r₁ := 0) (r₂ := 0) (d₁ := 0) (d₂ := 0) (fd := fd)
    (by rw [duties_cell, hu0, if_pos rfl]; exact Finset.mem_singleton_self _) (by rw [duties_cell, hu1, if_pos rfl]; exact Finset.mem_singleton_self _)
    () () N (show (rSlot c).view.amount (.dma (dsem 1 c)) = N from rfl) (amount_cell m c 0 d 0) (amount_cell m (par c d) 1 c 0) O rfl (W := W)
    (by rw [payload_cell]; exact BI.Entails.refl _)
    (by rw [payload_cell]; exact Entails.of_eq (pointsTo_congr (landed_slot m c (par c d) fd)))) $$ [HO Hsrc Hdst Ht0 Ht1]
  · isplitr; · iapply (ctx_inv m K (c, some (0, d))); iexact Hc
    isplitr; · iapply (ctx_inv m K (par c d, some (1, c))); iexact Hc
    isplitl [Hsrc]; · iexact Hsrc
    isplitl [Hdst]; · iexact Hdst
    isplitl [HO]; · iexact HO
    isplitl [Ht0]; · iexact Ht0
    isplitr; · iapply (ctx_reached m K (c, some (0, d))); iexact Hc
    isplitl [Ht1]; · iexact Ht1
    iapply (ctx_reached m K (par c d, some (1, c))); iexact Hc
  iintro ⟨Hcr, HO⟩
  iapply Hk
  isplitl [HO]; · iexists W; iexact HO
  iexact Hcr

/-- One copy of the second exchange: the sum into the partner's result. -/
theorem op_send2 {Q : α → sProp 𝕄} (hd : d ≠ 0) (O : CellTallies nD τ sig Unit)
    {hsc : (oBlk c : Memref sig (Dev.tc (par c d) : Thread nD τ).2.kind .vmem S64x512 .bf16).view.ref.isScScratch = false}
    {hsrc : (oBlk c).view.WordExact} {hdst : (oBlk c).view.WordExact}
    {hsem : DmaTarget.Typed .vmem (.dma (dsem 3 c)) (.remote (Dev.tc (par c d) : Thread nD τ) (oBlk c) (.dma (dsem 2 d)) hsc)} :
    iprop(ctx m K ∗ owing c (O + tallyAt (cell (par c d) 3 c) () N) ∗ send2In m c d)
      ⊢ iprop((owing c O ∗ sendOut 2 c d -∗ Runs c (k ⟨⟩) Q)
        -∗ Runs c (.op (.enqueueDma (oBlk c) (.remote (Dev.tc (par c d) : Thread nD τ) (oBlk c) (.dma (dsem 2 d)) hsc) (.dma (dsem 3 c)) hsrc hdst hsem) k) Q) := by
  have hu0 := (used_send c d hd).2
  have hu1 := (used_recv c d hd).2
  unfold owing send2In sendOut outP
  iintro ⟨#Hc, ⟨%W, HO⟩, Hsrc, ⟨%fd, Hdst⟩, Ht0, Ht1⟩ Hk
  iapply (Rounds.wp_send_pointsTo 𝒱₀ ER (rd m) (c : Thread nD τ) none (κ₁ := K (c, some (2, d))) (κ₂ := K (par c d, some (3, c)))
    (r₁ := 0) (r₂ := 0) (d₁ := 0) (d₂ := 0) (fd := fd)
    (by rw [duties_cell, hu0, if_pos rfl]; exact Finset.mem_singleton_self _) (by rw [duties_cell, hu1, if_pos rfl]; exact Finset.mem_singleton_self _)
    () () N (show (oBlk c).view.amount (.dma (dsem 3 c)) = N from rfl) (amount_cell m c 2 d 0) (amount_cell m (par c d) 3 c 0) O rfl (W := W)
    (by rw [payload_cell]; exact BI.Entails.refl _)
    (by rw [payload_cell]; exact Entails.of_eq (pointsTo_congr (write_read_self (oBlk c).view fd (outF m))))) $$ [HO Hsrc Hdst Ht0 Ht1]
  · isplitr; · iapply (ctx_inv m K (c, some (2, d))); iexact Hc
    isplitr; · iapply (ctx_inv m K (par c d, some (3, c))); iexact Hc
    isplitl [Hsrc]; · iexact Hsrc
    isplitl [Hdst]; · iexact Hdst
    isplitl [HO]; · iexact HO
    isplitl [Ht0]; · iexact Ht0
    isplitr; · iapply (ctx_reached m K (c, some (2, d))); iexact Hc
    isplitl [Ht1]; · iexact Ht1
    iapply (ctx_reached m K (par c d, some (3, c))); iexact Hc
  iintro ⟨Hcr, HO⟩
  iapply Hk
  isplitl [HO]; · iexists W; iexact HO
  iexact Hcr

/-- A copy of the first exchange as a step of the row of seven, -/
theorem step_send1 {Q : α → sProp 𝕄} {R : sProp 𝕄} (hi : Nth i d) {n : Dev nD} (hn : n = par c d) {o2 : Fin 2 → ℕ} (ho2 : o2 = ![64 * (par c d).val, 0]) {o3 : Fin 3 → ℕ} (ho3 : o3 = ![c.val, 0, 0])
    {q0 q1 : DmaSem sig} (hq0 : q0 = dsem 0 d) (hq1 : q1 = dsem 1 c)
    {i2 : ∀ a, o2 a + S64x512.size a ≤ S512x512.size a} {h2} {i3 : ∀ a, o3 a + S1x64x512.size a ≤ S8x64x512.size a} {h3} {hsc} {hsrc} {hdst} {hsem}
    (h : iprop(St m K c (owR 3 c offs + owR 1 c (todo (i + 1))) (send1In m c) (sendOut 0 c) (i + 1) ∗ R) ⊢ Runs c (k ⟨⟩) Q) :
    iprop(St m K c (owR 3 c offs + owR 1 c (todo i)) (send1In m c) (sendOut 0 c) i ∗ R)
      ⊢ Runs c (.op (.enqueueDma (bM.slice (Rect.unit (s := S512x512) o2 S64x512.size i2) h2)
          (.remote (Dev.tc n : Thread nD τ) ((rM.slice (Rect.unit (s := S8x64x512) o3 S1x64x512.size i3) h3).squeeze S64x512 squeezes_S1x64x512_S64x512) (.dma q0) hsc)
          (.dma q1) hsrc hdst hsem) k) Q := by
  subst hn ho2 ho3 hq0 hq1
  refine St_step m K hi ?_ h
  rw [owR_erase 1 c hi.2.1, ← add_assoc, hi.2.2.2.1]
  exact op_send1 m K c d hi.1 _

/-- and one of the second. -/
theorem step_send2 {Q : α → sProp 𝕄} {R : sProp 𝕄} (hi : Nth i d) {n : Dev nD} (hn : n = par c d) {o2 : Fin 2 → ℕ} (ho2 : o2 = ![64 * c.val, 0])
    {q0 q1 : DmaSem sig} (hq0 : q0 = dsem 2 d) (hq1 : q1 = dsem 3 c)
    {i2 i2' : ∀ a, o2 a + S64x512.size a ≤ S512x512.size a} {h2 h2'} {hsc} {hsrc} {hdst} {hsem}
    (h : iprop(St m K c (owR 3 c (todo (i + 1))) (send2In m c) (sendOut 2 c) (i + 1) ∗ R) ⊢ Runs c (k ⟨⟩) Q) :
    iprop(St m K c (owR 3 c (todo i)) (send2In m c) (sendOut 2 c) i ∗ R)
      ⊢ Runs c (.op (.enqueueDma (oM.slice (Rect.unit (s := S512x512) o2 S64x512.size i2) h2)
          (.remote (Dev.tc n : Thread nD τ) (oM.slice (Rect.unit (s := S512x512) o2 S64x512.size i2') h2') (.dma q0) hsc)
          (.dma q1) hsrc hdst hsem) k) Q := by
  subst hn ho2 hq0 hq1
  refine St_step m K hi ?_ h
  rw [owR_erase 3 c hi.2.1, hi.2.2.2.1]
  exact op_send2 m K c d hi.1 _

end Steps

end Cert.KernelIdeal.AllReduce

end
-- ==== Proof.KernelIdeal.Words.lean ====
/-
The numbers the kernel computes from its device id: which devices, rows and semaphores its operations name.
-/
module

public import proofs.«01_k».proof.Proof.KernelIdeal.Steps

@[expose] public section

noncomputable section

namespace Cert.KernelIdeal.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (c : Dev nD)

/-- A device computed at each step of a phase is the partner at that step's offset. -/
def AtOrder (f : Fin 7 → Dev nD) : Prop := ∀ i : Fin 7, f i = par c (order[i.val]'(by revert i; decide))
instance (f : Fin 7 → Dev nD) : Decidable (AtOrder c f) := by unfold AtOrder; infer_instance

/-- The devices signalled, -/
theorem dev_signal : AtOrder c ![⟨k0_dev1 c, k0_dev1_lt c⟩, ⟨k0_dev2 c, k0_dev2_lt c⟩, ⟨k0_dev3 c, k0_dev3_lt c⟩, ⟨k0_dev4 c, k0_dev4_lt c⟩,
    ⟨k0_dev5 c, k0_dev5_lt c⟩, ⟨k0_dev6 c, k0_dev6_lt c⟩, ⟨k0_dev7 c, k0_dev7_lt c⟩] := by
  revert c; decide +kernel
/-- those the first exchange sends to, -/
theorem dev_send1 : AtOrder c ![⟨k0_dev8 c, k0_dev8_lt c⟩, ⟨k0_dev9 c, k0_dev9_lt c⟩, ⟨k0_dev10 c, k0_dev10_lt c⟩, ⟨k0_dev11 c, k0_dev11_lt c⟩,
    ⟨k0_dev12 c, k0_dev12_lt c⟩, ⟨k0_dev13 c, k0_dev13_lt c⟩, ⟨k0_dev14 c, k0_dev14_lt c⟩] := by
  revert c; decide +kernel
/-- and those the second does. -/
theorem dev_send2 : AtOrder c ![⟨k0_dev15 c, k0_dev15_lt c⟩, ⟨k0_dev16 c, k0_dev16_lt c⟩, ⟨k0_dev17 c, k0_dev17_lt c⟩, ⟨k0_dev18 c, k0_dev18_lt c⟩,
    ⟨k0_dev19 c, k0_dev19_lt c⟩, ⟨k0_dev20 c, k0_dev20_lt c⟩, ⟨k0_dev21 c, k0_dev21_lt c⟩] := by
  revert c; decide +kernel

/-- The first row of the partner's block, -/
theorem off3_eq (d : Fin 8) : k0_off3 c (BitVec.ofNat 32 d.val) = ![64 * (par c d).val, 0] := by revert c d; decide +kernel
/-- and the partner's receive semaphore. -/
theorem off6_eq (d : Fin 8) : k0_off6 c (BitVec.ofNat 32 d.val) = ![(par c d).val] := by revert c d; decide +kernel

/-- Entry `j` of the array of send semaphores of the first exchange. -/
theorem sem_0 (j : Fin 8) {o : Fin 1 → ℕ} (ho : o = ![j.val]) (inb : ∀ a, o a + S1.size a ≤ S8.size a) :
    ((cc0_scratch2.slice (Rect.unit (s := S8) o S1.size inb)).squeeze S_ squeezes_S1_S_).sem = dsem 0 j := by
  subst ho; revert j; decide
/-- The same for the receive semaphores of the first exchange, -/
theorem sem_1 (j : Fin 8) {o : Fin 1 → ℕ} (ho : o = ![j.val]) (inb : ∀ a, o a + S1.size a ≤ S8.size a) :
    ((cc0_scratch3.slice (Rect.unit (s := S8) o S1.size inb)).squeeze S_ squeezes_S1_S_).sem = dsem 1 j := by
  subst ho; revert j; decide
/-- the send semaphores of the second, -/
theorem sem_2 (j : Fin 8) {o : Fin 1 → ℕ} (ho : o = ![j.val]) (inb : ∀ a, o a + S1.size a ≤ S8.size a) :
    ((cc0_scratch4.slice (Rect.unit (s := S8) o S1.size inb)).squeeze S_ squeezes_S1_S_).sem = dsem 2 j := by
  subst ho; revert j; decide
/-- and its receive semaphores. -/
theorem sem_3 (j : Fin 8) {o : Fin 1 → ℕ} (ho : o = ![j.val]) (inb : ∀ a, o a + S1.size a ≤ S8.size a) :
    ((cc0_scratch5.slice (Rect.unit (s := S8) o S1.size inb)).squeeze S_ squeezes_S1_S_).sem = dsem 3 j := by
  subst ho; revert j; decide

/-- The semaphore waited on at offset `d`: by the offset for the sends, by the partner for the receives. -/
theorem semAt_0 (d : Fin 8) : semAt 0 c d = d := rfl
/-- and the receive semaphores by partner; -/
theorem semAt_1 (d : Fin 8) : semAt 1 c d = par c d := rfl
/-- so it is in the second exchange, -/
theorem semAt_2 (d : Fin 8) : semAt 2 c d = d := rfl
/-- for both. -/
theorem semAt_3 (d : Fin 8) : semAt 3 c d = par c d := rfl

/-! ## The buffers, whole and in blocks -/

/-- Device `c`'s staged shard, -/
def xAll (f : (cc0_stg0_0 : Ref sig .tc).ty.Contents (Elt F)) : sProp 𝕄 := (c : Thread nD τ).loc cc0_stg0_0 ↦{fullShare} f
/-- its result, -/
def oAll (f : (cc0_stg1_0 : Ref sig .tc).ty.Contents (Elt F)) : sProp 𝕄 := (c : Thread nD τ).loc cc0_stg1_0 ↦{fullShare} f
/-- its working copy, -/
def bAll (f : (cc0_scratch0 : Ref sig .tc).ty.Contents (Elt F)) : sProp 𝕄 := (c : Thread nD τ).loc cc0_scratch0 ↦{fullShare} f
/-- and its receive buffer, each whole. -/
def rAll (f : (cc0_scratch1 : Ref sig .tc).ty.Contents (Elt F)) : sProp 𝕄 := (c : Thread nD τ).loc cc0_scratch1 ↦{fullShare} f

/-- The result is its eight blocks, -/
theorem oAll_blocks (f : (cc0_stg1_0 : Ref sig .tc).ty.Contents (Elt F)) : oAll c f = bigSep Finset.univ fun q => outP (F := F) c q fullShare f := by
  have h := Ring.pointsTo_blocks (Ix := Unit) (Val := Elt F) (Name := ℕ) (U := UU) (Lvl := ℕ) (ℓ := (c : Thread nD τ).loc cc0_stg1_0) (q := fullShare)
    (fun q : Fin 8 => (rowsR q).set) rows_disjoint rows_cover f
  unfold oAll
  refine h.trans (congrArg (bigSep Finset.univ) (funext fun q => ?_))
  unfold outP
  rw [set_oBlk]
/-- the working copy too, -/
theorem bAll_blocks (f : (cc0_scratch0 : Ref sig .tc).ty.Contents (Elt F)) : bAll c f = bigSep Finset.univ fun q => copyP (F := F) c q f := by
  have h := Ring.pointsTo_blocks (Ix := Unit) (Val := Elt F) (Name := ℕ) (U := UU) (Lvl := ℕ) (ℓ := (c : Thread nD τ).loc cc0_scratch0) (q := fullShare)
    (fun q : Fin 8 => (rowsR q).set) rows_disjoint rows_cover f
  unfold bAll
  refine h.trans (congrArg (bigSep Finset.univ) (funext fun q => ?_))
  unfold copyP
  rw [set_bBlk]
/-- and the receive buffer its eight slots. -/
theorem rAll_blocks (f : (cc0_scratch1 : Ref sig .tc).ty.Contents (Elt F)) : rAll c f = bigSep Finset.univ fun q => slotP (F := F) c q f := by
  have h := Ring.pointsTo_blocks (Ix := Unit) (Val := Elt F) (Name := ℕ) (U := UU) (Lvl := ℕ) (ℓ := (c : Thread nD τ).loc cc0_scratch1) (q := fullShare)
    (fun q : Fin 8 => (slotR q).set) slots_disjoint slots_cover f
  unfold rAll
  refine h.trans (congrArg (bigSep Finset.univ) (funext fun q => ?_))
  unfold slotP
  rw [set_rSlot]

/-- Eight of anything, indexed by device: the one of `c`, and those of its seven partners. -/
theorem peel (Φ : Fin 8 → sProp 𝕄) : bigSep Finset.univ Φ = iprop(Φ c ∗ bigSep offs fun d => Φ (par c d)) := by
  rw [bigSep_univ_equiv (spread c) Φ, big_erase (Finset.mem_univ (0 : Fin 8))]
  show iprop(Φ (par c 0) ∗ _) = _
  rw [par_self]; rfl
/-- A product of pairs is a pair of products. -/
theorem big_sep (s : Finset (Fin 8)) (Φ Ψ : Fin 8 → sProp 𝕄) : (bigSep s fun d => iprop(Φ d ∗ Ψ d)) = iprop(bigSep s Φ ∗ bigSep s Ψ) := bigSep_sep' s Φ Ψ

/-- The result block lent out in eighths: one kept, seven lent. -/
theorem out_eighths (f : (cc0_stg1_0 : Ref sig .tc).ty.Contents (Elt F)) :
    outP (F := F) c c fullShare f = iprop(outP c c (eighth 0) f ∗ bigSep offs fun d => outP c c (eighth d) f) := by
  rw [← big_erase (Finset.mem_univ (0 : Fin 8)) (fun d => outP (F := F) c c (eighth d) f)]
  unfold outP
  exact pointsTo_piecesOf (Ix := Unit) (Val := Elt F) (Name := ℕ) (U := UU) (Lvl := ℕ) (ℓ := (oBlk c).view.loc (c : Thread nD τ)) _ f (by decide) fullShare

end Cert.KernelIdeal.AllReduce

end
-- ==== Proof.KernelIdeal.Local.lean ====
/-
The kernel's loads and stores, and the passage from one phase to the next.
-/
module

public import proofs.«01_k».proof.Proof.KernelIdeal.Words

@[expose] public section

set_option maxRecDepth 16384

noncomputable section

namespace Cert.KernelIdeal.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Key → ℕ) (c : Dev nD)

/-- A part over: its value is handed on. -/
theorem done {α : Type} {P : sProp 𝕄} {v : α} {Q : α → sProp 𝕄} (h : P ⊢ Q v) : P ⊢ Runs c (.ret v) Q := by
  unfold Runs
  rw [wp_ret]
  exact h.trans fupd_intro

/-- From one phase to the next: what it obtained is put by, what the next uses is taken up. -/
theorem turn {O O' : CellTallies nD τ sig Unit} (hO : O = O') (In Out In' Out' : Fin 8 → sProp 𝕄) (R : sProp 𝕄) :
    iprop(St m K c O In Out 7 ∗ bigSep offs In' ∗ R) ⊢ iprop(St m K c O' In' Out' 0 ∗ bigSep offs Out ∗ R) := by
  subst hO
  iintro ⟨HS, HI, HR⟩
  icases (St_last m K c O In Out) $$ HS with ⟨#Hc, HO, H⟩
  isplitl [HO HI]
  · iapply (St_first m K c O In' Out')
    isplitr; · iexact Hc
    isplitl [HO] <;> iassumption
  isplitl [H] <;> iassumption

/-! ## The loads and the stores -/

section Locals

variable {α : Type}

/-- A load or store of a slot touches that slot, -/
theorem set_access_slot : (rM.access (slotR c)).set = (slotR c).set := View.set_slice_whole _ _
/-- and one of a block of rows those rows. -/
theorem set_access_rows : (oM.access (rowsR c)).set = (rowsR c).set := View.set_slice_whole _ _
/-- The own block, stored in the own slot, is what the receive buffer holds there, -/
theorem access_stored_slot (fd : (rM.access (slotR c)).ty.Contents (Elt F)) :
    ∀ i ∈ (slotR c).set, (rM.access (slotR c)).write (Elt F) fd (k0_pay2 (bM.view.readAt (Elt F) (rowsR c).toLoadRect (copyF m c))) Finset.univ i = recvF m c i := by
  intro i hi; rw [← set_access_slot] at hi; exact stored_slot m c fd i hi
/-- and the sum, stored in the result, is what the result holds there. -/
theorem access_stored_rows (fd : (oM.access (rowsR c)).ty.Contents (Elt F)) :
    ∀ i ∈ (rowsR c).set, (oM.access (rowsR c)).write (Elt F) fd (sumF m c) Finset.univ i = outF m i := by
  intro i hi; rw [← set_access_rows] at hi; exact stored_rows m c fd i hi

/-- The shard is read whole. -/
theorem local_x {R : sProp 𝕄} {Q : α → sProp 𝕄} {k : Vec F S1x512x512 .bf16 → Prog (TpuEff nD τ sig (Elt F) Λ₀ .tc) α} {f} {inb} {hl}
    (h : iprop(xAll c f ∗ R) ⊢ Runs c (k f) Q) :
    iprop(xAll c f ∗ R) ⊢ Runs c (.op (.load xM (Rect.unit (s := S1x512x512) ![0, 0, 0] S1x512x512.size inb).toLoadRect hl) k) Q := by
  unfold xAll at h ⊢
  iintro ⟨Hx, HR⟩
  iapply (wp_load 𝒱₀ (c : Thread nD τ) none Set.univ (m := xM) (Finset.subset_univ _)) $$ Hx; iintro Hx
  rw [load_x]
  iapply h
  isplitl [Hx] <;> iassumption

/-- The copy's buffer is read and written whole. -/
theorem local_copy {R : sProp 𝕄} {Q : α → sProp 𝕄} {k : Vec F S512x512 .bf16 → PUnit → Prog (TpuEff nD τ sig (Elt F) Λ₀ .tc) α}
    {w : FVec F S512x512 .bf16} {inb inb'} {hl} {hx} {hm}
    (h : ∀ v, iprop(bAll c w ∗ R) ⊢ Runs c (k v ⟨⟩) Q) :
    iprop((∃ f, bAll (F := F) c f) ∗ R) ⊢ Runs c (.op (.load bM (Rect.unit (s := S512x512) ![0, 0] S512x512.size inb).toLoadRect hl)
      fun v => .op (.store bM (Rect.unit (s := S512x512) ![0, 0] S512x512.size inb') w Finset.univ hx hm) (k v)) Q := by
  unfold bAll at h ⊢
  iintro ⟨⟨%f, Hb⟩, HR⟩
  iapply (wp_load 𝒱₀ (c : Thread nD τ) none Set.univ (m := bM) (Finset.subset_univ _)) $$ Hb; iintro Hb
  iapply (wp_store 𝒱₀ (c : Thread nD τ) none Set.univ (m := bM) (r := Rect.unit (s := S512x512) ![0, 0] S512x512.size inb') (Mk := Finset.univ) (Finset.subset_univ _)) $$ Hb; iintro Hb
  rw [store_copy]
  iapply (h _)
  isplitl [Hb] <;> iassumption

/-- This device's own block is read from the copy, -/
theorem local_block {R : sProp 𝕄} {Q : α → sProp 𝕄} {k : Vec F S64x512 .bf16 → Prog (TpuEff nD τ sig (Elt F) Λ₀ .tc) α}
    {o : Fin 2 → ℕ} (ho : o = ![64 * c.val, 0]) {f} {inb : ∀ a, o a + S64x512.size a ≤ S512x512.size a} {hl}
    (h : iprop(copyP c c f ∗ R) ⊢ Runs c (k (bM.view.readAt (Elt F) (rowsR c).toLoadRect f)) Q) :
    iprop(copyP c c f ∗ R) ⊢ Runs c (.op (.load bM (Rect.unit (s := S512x512) o S64x512.size inb).toLoadRect hl) k) Q := by
  subst ho
  unfold copyP at h ⊢
  iintro ⟨Hb, HR⟩
  iapply (wp_load 𝒱₀ (c : Thread nD τ) none Set.univ (m := bM) (r := (rowsR c).toLoadRect) (fun i hi => by
    obtain ⟨x, hx, rfl⟩ := Finset.mem_map.mp hi; rw [set_bBlk]; exact hx)) $$ Hb; iintro Hb
  iapply h
  isplitl [Hb] <;> iassumption

/-- and written to its own slot. -/
theorem local_slot {R : sProp 𝕄} {Q : α → sProp 𝕄} {k : Vec F S1x64x512 .bf16 → PUnit → Prog (TpuEff nD τ sig (Elt F) Λ₀ .tc) α}
    {o : Fin 3 → ℕ} (ho : o = ![c.val, 0, 0]) {inb inb' : ∀ a, o a + S1x64x512.size a ≤ S8x64x512.size a} {hl} {hx} {hm}
    (h : ∀ v, iprop(slotP c c (recvF m c) ∗ R) ⊢ Runs c (k v ⟨⟩) Q) :
    iprop((∃ f, slotP (F := F) c c f) ∗ R) ⊢ Runs c (.op (.load rM (Rect.unit (s := S8x64x512) o S1x64x512.size inb).toLoadRect hl)
      fun v => .op (.store rM (Rect.unit (s := S8x64x512) o S1x64x512.size inb') (k0_pay2 (bM.view.readAt (Elt F) (rowsR c).toLoadRect (copyF m c))) Finset.univ hx hm) (k v)) Q := by
  subst ho
  unfold slotP at h ⊢
  rw [set_rSlot] at h ⊢
  iintro ⟨⟨%f, Hb⟩, HR⟩
  iapply (wp_load 𝒱₀ (c : Thread nD τ) none Set.univ (m := rM) (r := (slotR c).toLoadRect) (fun i hi => by
    obtain ⟨x, hx, rfl⟩ := Finset.mem_map.mp hi; exact hx)) $$ Hb; iintro Hb
  iapply (wp_store 𝒱₀ (c : Thread nD τ) none Set.univ (m := rM) (r := slotR c) (Mk := Finset.univ) (fun i hi => by
    rw [← set_access_slot]; exact hi)) $$ Hb; iintro Hb
  iapply (h _)
  isplitl [Hb]
  · iapply (Entails.of_eq (pointsTo_congr (access_stored_slot m c f))); iexact Hb
  iassumption

/-- A slot is read, all having landed. -/
theorem local_read {R : sProp 𝕄} {Q : α → sProp 𝕄} {k : Vec F S1x64x512 .bf16 → Prog (TpuEff nD τ sig (Elt F) Λ₀ .tc) α}
    (p : Fin 8) {inb : ∀ a, (![p.val, 0, 0] : Fin 3 → ℕ) a + S1x64x512.size a ≤ S8x64x512.size a} {hl}
    (h : iprop(rAll c (recvF m c) ∗ R) ⊢ Runs c (k (slotF m c p)) Q) :
    iprop(rAll c (recvF m c) ∗ R) ⊢ Runs c (.op (.load rM (Rect.unit (s := S8x64x512) ![p.val, 0, 0] S1x64x512.size inb).toLoadRect hl) k) Q := by
  unfold rAll at h ⊢
  iintro ⟨Hb, HR⟩
  iapply (wp_load 𝒱₀ (c : Thread nD τ) none Set.univ (m := rM) (r := (slotR p).toLoadRect) (Finset.subset_univ _)) $$ Hb; iintro Hb
  rw [load_slot]
  iapply h
  isplitl [Hb] <;> iassumption

/-- The sum is written to this device's block of the result. -/
theorem local_sum {R : sProp 𝕄} {Q : α → sProp 𝕄} {k : Vec F S64x512 .bf16 → PUnit → Prog (TpuEff nD τ sig (Elt F) Λ₀ .tc) α}
    {o : Fin 2 → ℕ} (ho : o = ![64 * c.val, 0]) {inb inb' : ∀ a, o a + S64x512.size a ≤ S512x512.size a} {hl} {hx} {hm}
    (h : ∀ v, iprop(outP c c fullShare (outF m) ∗ R) ⊢ Runs c (k v ⟨⟩) Q) :
    iprop((∃ f, outP (F := F) c c fullShare f) ∗ R) ⊢ Runs c (.op (.load oM (Rect.unit (s := S512x512) o S64x512.size inb).toLoadRect hl)
      fun v => .op (.store oM (Rect.unit (s := S512x512) o S64x512.size inb') (sumF m c) Finset.univ hx hm) (k v)) Q := by
  subst ho
  unfold outP at h ⊢
  rw [set_oBlk] at h ⊢
  iintro ⟨⟨%f, Hb⟩, HR⟩
  iapply (wp_load 𝒱₀ (c : Thread nD τ) none Set.univ (m := oM) (r := (rowsR c).toLoadRect) (fun i hi => by
    obtain ⟨x, hx, rfl⟩ := Finset.mem_map.mp hi; exact hx)) $$ Hb; iintro Hb
  iapply (wp_store 𝒱₀ (c : Thread nD τ) none Set.univ (m := oM) (r := rowsR c) (Mk := Finset.univ) (fun i hi => by
    rw [← set_access_rows]; exact hi)) $$ Hb; iintro Hb
  iapply (h _)
  isplitl [Hb]
  · iapply (Entails.of_eq (pointsTo_congr (access_stored_rows m c f))); iexact Hb
  iassumption

end Locals

end Cert.KernelIdeal.AllReduce

end
-- ==== Proof.KernelIdeal.Parts.lean ====
/-
The kernel's body, a part at a time.

The body is printed in thirteen parts and a tail. Each statement below runs one part from the state before it to the
state after it, whatever else (`R`) is held meanwhile.
-/
module

public import proofs.«01_k».proof.Proof.KernelIdeal.Local

@[expose] public section

set_option maxRecDepth 16384

noncomputable section

namespace Cert.KernelIdeal.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Key → ℕ) (c : Dev nD)

/-- Held things in another order. -/
theorem swap {A B R P : sProp 𝕄} (h : iprop(B ∗ A ∗ R) ⊢ P) : iprop(A ∗ B ∗ R) ⊢ P := by
  have e : iprop(A ∗ B ∗ R) ⊢ iprop(B ∗ A ∗ R) := by
    iintro ⟨HA, HB, HR⟩
    isplitl [HB]; · iexact HB
    isplitl [HA] <;> iassumption
  exact e.trans h
/-- The first three of a product, in the reverse order. -/
theorem swap3 {A B C R P : sProp 𝕄} (h : iprop(C ∗ B ∗ A ∗ R) ⊢ P) : iprop(A ∗ B ∗ C ∗ R) ⊢ P := by
  have e : iprop(A ∗ B ∗ C ∗ R) ⊢ iprop(C ∗ B ∗ A ∗ R) := by
    iintro ⟨HA, HB, HC, HR⟩
    isplitl [HC]; · iexact HC
    isplitl [HB]; · iexact HB
    isplitl [HA] <;> iassumption
  exact e.trans h

/-! ## The signals -/

/-- Copying the shard, and the first five signals. -/
theorem part1 {R : sProp 𝕄} {Q : (Σ' (d0 : Dev nD) (v2 : BitVec 32) (v8 : Sems sig S_), BitVec 32) → sProp 𝕄}
    (h : ∀ v2 v24, iprop(St m K c (owR 3 c offs + owR 1 c offs + owB c (todo 5)) (sigIn c) sigOut 5 ∗ xAll c (xstg m c) ∗ bAll c (copyF m c) ∗ R)
      ⊢ Q ⟨c, v2, SemArray.scalar (sig.barrier 0 rfl), v24⟩) :
    iprop(xAll c (xstg m c) ∗ (∃ f, bAll (F := F) c f) ∗ St m K c (owR 3 c offs + owR 1 c offs + owB c (todo 0)) (sigIn c) sigOut 0 ∗ R)
      ⊢ Runs c (k0_part1 xM (Memref.isWhole_whole _) oM (Memref.isWhole_whole _) bM (Memref.isWhole_whole _) rM (Memref.isWhole_whole _) cc0_scratch2 cc0_scratch3 cc0_scratch4 cc0_scratch5) Q := by
  rw [k0_part1_eq_skeleton]
  unfold k0_part1_skel
  simp only [semSignalWord, Prog.lift, Prog.bind_op, Prog.bind_ret, Prog.pure_eq_ret, wp_deviceId]
  refine local_x c (swap (local_copy c fun _ => swap3 ?_))
  refine step_signal m K c 6 0 (by decide) (dev_signal c 0) rfl ?_
  refine step_signal m K c 2 1 (by decide) (dev_signal c 1) rfl ?_
  refine step_signal m K c 5 2 (by decide) (dev_signal c 2) rfl ?_
  refine step_signal m K c 7 3 (by decide) (dev_signal c 3) rfl ?_
  refine step_signal m K c 1 4 (by decide) (dev_signal c 4) rfl ?_
  exact done c (h _ _)

/-- What the first exchange's copies need beyond the places lent. -/
def ready1 (d : Fin 8) : sProp 𝕄 :=
  iprop(copyP c (par c d) (copyF m c) ∗ dutyTok ER (cell c 0 d) 0 0 ∗ dutyTok ER (cell (par c d) 1 c) 0 0)

/-- The signals sent, only copies are owed. -/
theorem signalled {R P : sProp 𝕄} (h : iprop(ctx m K ∗ owing c (owR 3 c offs + owR 1 c offs) ∗ R) ⊢ P) :
    iprop(St m K c (owR 3 c offs + owR 1 c offs + owB c (todo 7)) (sigIn c) sigOut 7 ∗ R) ⊢ P := by
  rw [todo_last, owB_empty, add_zero]
  have e : iprop(St m K c (owR 3 c offs + owR 1 c offs) (sigIn c) sigOut 7 ∗ R) ⊢ iprop(ctx m K ∗ owing c (owR 3 c offs + owR 1 c offs) ∗ R) := by
    iintro ⟨HS, HR⟩
    icases (St_last m K c _ _ _) $$ HS with ⟨#Hc, HO, -⟩
    isplitr; · iexact Hc
    isplitl [HO] <;> iassumption
  exact e.trans h

/-- The partners' signals in, their slots are used at once and their blocks of the result put by. -/
theorem lent {A R P : sProp 𝕄} (h : iprop(St m K c (owR 3 c offs + owR 1 c (todo 0)) (send1In m c) (sendOut 0 c) 0 ∗ A ∗ (bigSep offs fun d => iprop(∃ f, outP (F := F) (par c d) c fullShare f)) ∗ R) ⊢ P) :
    iprop(ctx m K ∗ owing c (owR 3 c offs + owR 1 c offs) ∗ A ∗ (bigSep offs fun d => lendP (F := F) (par c d) c) ∗ bigSep offs (ready1 m c) ∗ R) ⊢ P := by
  have e : iprop(ctx m K ∗ owing c (owR 3 c offs + owR 1 c offs) ∗ A ∗ (bigSep offs fun d => lendP (F := F) (par c d) c) ∗ bigSep offs (ready1 m c) ∗ R)
      ⊢ iprop(St m K c (owR 3 c offs + owR 1 c (todo 0)) (send1In m c) (sendOut 0 c) 0 ∗ A ∗ (bigSep offs fun d => iprop(∃ f, outP (F := F) (par c d) c fullShare f)) ∗ R) := by
    unfold lendP ready1
    rw [big_sep, big_sep, big_sep]
    iintro ⟨#Hc, HO, HA, ⟨Hs, Ho⟩, ⟨Hb, Ht, Ht'⟩, HR⟩
    isplitl [HO Hs Hb Ht Ht']
    · rw [show owR 3 c offs + owR 1 c (todo 0) = owR 3 c offs + owR 1 c offs from by rw [todo_first]]
      iapply (St_first m K c _ _ _)
      unfold send1In
      rw [big_sep, big_sep, big_sep]
      isplitr; · iexact Hc
      isplitl [HO]; · iexact HO
      isplitl [Hb]; · iexact Hb
      isplitl [Hs]; · iexact Hs
      isplitl [Ht] <;> iassumption
    isplitl [HA]; · iexact HA
    isplitl [Ho] <;> iassumption
  exact e.trans h

/-- The last two signals, the wait for the partners' seven, and the first two copies. -/
theorem part2 {R : sProp 𝕄} {Q : (Σ' (v52 : BitVec 32), BitVec 32) → sProp 𝕄} {v2 : BitVec 32} {v24 : BitVec 32}
    (h : ∀ v, iprop(St m K c (owR 3 c offs + owR 1 c (todo 2)) (send1In m c) (sendOut 0 c) 2 ∗ atPos ER (barCell c) 1 ∅ 0 ∗ (bigSep offs fun d => iprop(∃ f, outP (F := F) (par c d) c fullShare f)) ∗ R) ⊢ Q ⟨v, 64#32⟩) :
    iprop(St m K c (owR 3 c offs + owR 1 c offs + owB c (todo 5)) (sigIn c) sigOut 5 ∗ cred (tallyAt (barCell c) () 7) ∗ atPos ER (barCell c) 0 ∅ 0 ∗ bigSep offs (ready1 m c) ∗ R)
      ⊢ Runs c (k0_part2 xM (Memref.isWhole_whole _) oM (Memref.isWhole_whole _) bM (Memref.isWhole_whole _) rM (Memref.isWhole_whole _) cc0_scratch2 cc0_scratch3 cc0_scratch4 cc0_scratch5 c v2 (SemArray.scalar (sig.barrier 0 rfl)) v24) Q := by
  rw [k0_part2_eq_skeleton]
  unfold k0_part2_skel
  simp only [semSignalWord, semWaitWord, Prog.lift, Prog.bind_op, Prog.bind_ret, Prog.pure_eq_ret]
  refine step_signal m K c 3 5 (by decide) (dev_signal c 5) rfl ?_
  refine step_signal m K c 4 6 (by decide) (dev_signal c 6) rfl ?_
  refine signalled m K c (step_barWait m K c rfl (lent m K c ?_))
  refine step_send1 m K c 6 0 (by decide) (dev_send1 c 0) (off3_eq c 6) (k0_off2_eq c) (sem_0 6 rfl _) (sem_1 c (k0_off1_eq c) _) ?_
  refine step_send1 m K c 2 1 (by decide) (dev_send1 c 1) (off3_eq c 2) (k0_off2_eq c) (sem_0 2 rfl _) (sem_1 c (k0_off1_eq c) _) ?_
  exact done c (h _)

/-! ## The first exchange -/

/-- Three more copies of the first exchange. -/
theorem part3 {R : sProp 𝕄} {Q : (Σ' (v52 : BitVec 32), BitVec 32) → sProp 𝕄} {v2 v52 c64 : BitVec 32}
    (h : ∀ v, iprop(St m K c (owR 3 c offs + owR 1 c (todo 5)) (send1In m c) (sendOut 0 c) 5 ∗ R) ⊢ Q ⟨v, 64#32⟩) :
    iprop(St m K c (owR 3 c offs + owR 1 c (todo 2)) (send1In m c) (sendOut 0 c) 2 ∗ R)
      ⊢ Runs c (k0_part3 xM (Memref.isWhole_whole _) oM (Memref.isWhole_whole _) bM (Memref.isWhole_whole _) rM (Memref.isWhole_whole _) cc0_scratch2 cc0_scratch3 cc0_scratch4 cc0_scratch5 c v2 v52 c64) Q := by
  rw [k0_part3_eq_skeleton]
  unfold k0_part3_skel
  simp only [Prog.lift, Prog.bind_op, Prog.bind_ret, Prog.pure_eq_ret]
  refine step_send1 m K c 5 2 (by decide) (dev_send1 c 2) (off3_eq c 5) (k0_off2_eq c) (sem_0 5 rfl _) (sem_1 c (k0_off1_eq c) _) ?_
  refine step_send1 m K c 7 3 (by decide) (dev_send1 c 3) (off3_eq c 7) (k0_off2_eq c) (sem_0 7 rfl _) (sem_1 c (k0_off1_eq c) _) ?_
  refine step_send1 m K c 1 4 (by decide) (dev_send1 c 4) (off3_eq c 1) (k0_off2_eq c) (sem_0 1 rfl _) (sem_1 c (k0_off1_eq c) _) ?_
  exact done c (h _)

/-- The last two, and this device's own block. -/
theorem part4 {R : sProp 𝕄} {Q : PUnit → sProp 𝕄} {v2 v85 c64 : BitVec 32}
    (h : iprop(slotP c c (recvF m c) ∗ St m K c (owR 3 c offs + owR 1 c (todo 7)) (send1In m c) (sendOut 0 c) 7 ∗ copyP c c (copyF m c) ∗ R) ⊢ Q ⟨⟩) :
    iprop(St m K c (owR 3 c offs + owR 1 c (todo 5)) (send1In m c) (sendOut 0 c) 5 ∗ copyP c c (copyF m c) ∗ (∃ f, slotP (F := F) c c f) ∗ R)
      ⊢ Runs c (k0_part4 xM (Memref.isWhole_whole _) oM (Memref.isWhole_whole _) bM (Memref.isWhole_whole _) rM (Memref.isWhole_whole _) cc0_scratch2 cc0_scratch3 cc0_scratch4 cc0_scratch5 c v2 v85 c64) Q := by
  rw [k0_part4_eq_skeleton]
  unfold k0_part4_skel
  simp only [Prog.lift, Prog.bind_op, Prog.bind_ret, Prog.pure_eq_ret]
  refine step_send1 m K c 3 5 (by decide) (dev_send1 c 5) (off3_eq c 3) (k0_off2_eq c) (sem_0 3 rfl _) (sem_1 c (k0_off1_eq c) _) ?_
  refine step_send1 m K c 4 6 (by decide) (dev_send1 c 6) (off3_eq c 4) (k0_off2_eq c) (sem_0 4 rfl _) (sem_1 c (k0_off1_eq c) _) ?_
  refine swap (local_block c (k0_off4_eq c) (swap3 (local_slot m c (k0_off5_eq c) fun _ => ?_)))
  exact done c h

/-- Three blocks waited for. -/
theorem part5 {R : sProp 𝕄} {Q : PUnit → sProp 𝕄} {v2 : BitVec 32}
    (h : iprop(St m K c (owR 3 c offs) (waitIn 1 c) (waitOut m 1 c) 3 ∗ R) ⊢ Q ⟨⟩) :
    iprop(St m K c (owR 3 c offs) (waitIn 1 c) (waitOut m 1 c) 0 ∗ R)
      ⊢ Runs c (k0_part5 xM (Memref.isWhole_whole _) oM (Memref.isWhole_whole _) bM (Memref.isWhole_whole _) rM (Memref.isWhole_whole _) cc0_scratch2 cc0_scratch3 cc0_scratch4 cc0_scratch5 c v2) Q := by
  rw [k0_part5_eq_skeleton]
  unfold k0_part5_skel
  simp only [Prog.lift, Prog.bind_op, Prog.bind_ret, Prog.pure_eq_ret]
  refine step_wait m K c 6 0 1 (by decide) (mayWait_recv c) (sem_1 (par c 6) (off6_eq c 6) _) rfl ?_
  refine step_wait m K c 2 1 1 (by decide) (mayWait_recv c) (sem_1 (par c 2) (off6_eq c 2) _) rfl ?_
  refine step_wait m K c 5 2 1 (by decide) (mayWait_recv c) (sem_1 (par c 5) (off6_eq c 5) _) rfl ?_
  exact done c h

/-- What a phase of waits obtained: the semaphores a round on, and what they gave. -/
theorem waitOut_sep (k : Fin 4) : bigSep offs (waitOut m k c)
    = iprop((bigSep offs fun d => atPos ER (cell c k (semAt k c d)) 1 ∅ 0) ∗ bigSep offs fun d => givesP m c (k, semAt k c d)) :=
  big_sep offs (fun d => atPos ER (cell c k (semAt k c d)) 1 ∅ 0) (fun d => givesP m c (k, semAt k c d))

/-- All eight slots filled, the receive buffer is whole again. -/
theorem received {R P : sProp 𝕄}
    (h : iprop(rAll c (recvF m c) ∗ ctx m K ∗ owing c (owR 3 c offs) ∗ (bigSep offs fun d => atPos ER (cell c 1 (semAt 1 c d)) 1 ∅ 0) ∗ R) ⊢ P) :
    iprop(St m K c (owR 3 c offs) (waitIn 1 c) (waitOut m 1 c) 7 ∗ slotP c c (recvF m c) ∗ R) ⊢ P := by
  have e : iprop(St m K c (owR 3 c offs) (waitIn 1 c) (waitOut m 1 c) 7 ∗ slotP c c (recvF m c) ∗ R)
      ⊢ iprop(rAll c (recvF m c) ∗ ctx m K ∗ owing c (owR 3 c offs) ∗ (bigSep offs fun d => atPos ER (cell c 1 (semAt 1 c d)) 1 ∅ 0) ∗ R) := by
    rw [rAll_blocks, peel c]
    iintro ⟨HS, Hs, HR⟩
    icases (St_last m K c _ _ _) $$ HS with ⟨#Hc, HO, H⟩
    icases (Entails.of_eq (waitOut_sep m c 1)) $$ H with ⟨Ha, H⟩
    isplitl [Hs H]
    · isplitl [Hs]; · iexact Hs
      iexact H
    isplitr; · iexact Hc
    isplitl [HO]; · iexact HO
    isplitl [Ha] <;> iassumption
  exact e.trans h

/-- The other four, and the first slot read. -/
theorem part6 {R : sProp 𝕄} {Q : Vec F S1x64x512 .bf16 → sProp 𝕄} {v2 : BitVec 32}
    (h : iprop(rAll c (recvF m c) ∗ ctx m K ∗ owing c (owR 3 c offs) ∗ (bigSep offs fun d => atPos ER (cell c 1 (semAt 1 c d)) 1 ∅ 0) ∗ R) ⊢ Q (slotF m c 0)) :
    iprop(St m K c (owR 3 c offs) (waitIn 1 c) (waitOut m 1 c) 3 ∗ slotP c c (recvF m c) ∗ R)
      ⊢ Runs c (k0_part6 xM (Memref.isWhole_whole _) oM (Memref.isWhole_whole _) bM (Memref.isWhole_whole _) rM (Memref.isWhole_whole _) cc0_scratch2 cc0_scratch3 cc0_scratch4 cc0_scratch5 c v2) Q := by
  rw [k0_part6_eq_skeleton]
  unfold k0_part6_skel
  simp only [Prog.lift, Prog.bind_op, Prog.bind_ret, Prog.pure_eq_ret]
  refine step_wait m K c 7 3 1 (by decide) (mayWait_recv c) (sem_1 (par c 7) (off6_eq c 7) _) rfl ?_
  refine step_wait m K c 1 4 1 (by decide) (mayWait_recv c) (sem_1 (par c 1) (off6_eq c 1) _) rfl ?_
  refine step_wait m K c 3 5 1 (by decide) (mayWait_recv c) (sem_1 (par c 3) (off6_eq c 3) _) rfl ?_
  refine step_wait m K c 4 6 1 (by decide) (mayWait_recv c) (sem_1 (par c 4) (off6_eq c 4) _) rfl ?_
  refine received m K c (local_read m c 0 ?_)
  exact done c h

/-- The sum of the slots, stored. -/
theorem part7 {R : sProp 𝕄} {Q : PUnit → sProp 𝕄} {v2 : BitVec 32}
    (h : iprop(outP c c fullShare (outF m) ∗ rAll c (recvF m c) ∗ R) ⊢ Q ⟨⟩) :
    iprop(rAll c (recvF m c) ∗ (∃ f, outP (F := F) c c fullShare f) ∗ R)
      ⊢ Runs c (k0_part7 xM (Memref.isWhole_whole _) oM (Memref.isWhole_whole _) bM (Memref.isWhole_whole _) rM (Memref.isWhole_whole _) cc0_scratch2 cc0_scratch3 cc0_scratch4 cc0_scratch5 c v2 (slotF m c 0)) Q := by
  rw [k0_part7_eq_skeleton]
  unfold k0_part7_skel
  simp only [Prog.lift, Prog.bind_op, Prog.bind_ret, Prog.pure_eq_ret]
  refine local_read m c 1 ?_
  refine local_read m c 2 ?_
  refine local_read m c 3 ?_
  refine local_read m c 4 ?_
  refine local_read m c 5 ?_
  refine local_read m c 6 ?_
  refine local_read m c 7 ?_
  refine swap (local_sum m c (k0_off4_eq c) fun _ => ?_)
  exact done c h

/-! ## The second exchange -/

/-- Three copies of the second exchange, -/
theorem part8 {R : sProp 𝕄} {Q : PUnit → sProp 𝕄} {v2 : BitVec 32}
    (h : iprop(St m K c (owR 3 c (todo 3)) (send2In m c) (sendOut 2 c) 3 ∗ R) ⊢ Q ⟨⟩) :
    iprop(St m K c (owR 3 c (todo 0)) (send2In m c) (sendOut 2 c) 0 ∗ R)
      ⊢ Runs c (k0_part8 xM (Memref.isWhole_whole _) oM (Memref.isWhole_whole _) bM (Memref.isWhole_whole _) rM (Memref.isWhole_whole _) cc0_scratch2 cc0_scratch3 cc0_scratch4 cc0_scratch5 c v2) Q := by
  rw [k0_part8_eq_skeleton]
  unfold k0_part8_skel
  simp only [Prog.lift, Prog.bind_op, Prog.bind_ret, Prog.pure_eq_ret]
  refine step_send2 m K c 6 0 (by decide) (dev_send2 c 0) (k0_off8_eq c) (sem_2 6 rfl _) (sem_3 c (k0_off1_eq c) _) ?_
  refine step_send2 m K c 2 1 (by decide) (dev_send2 c 1) (k0_off8_eq c) (sem_2 2 rfl _) (sem_3 c (k0_off1_eq c) _) ?_
  refine step_send2 m K c 5 2 (by decide) (dev_send2 c 2) (k0_off8_eq c) (sem_2 5 rfl _) (sem_3 c (k0_off1_eq c) _) ?_
  exact done c h

/-- three more, -/
theorem part9 {R : sProp 𝕄} {Q : PUnit → sProp 𝕄} {v2 : BitVec 32}
    (h : iprop(St m K c (owR 3 c (todo 6)) (send2In m c) (sendOut 2 c) 6 ∗ R) ⊢ Q ⟨⟩) :
    iprop(St m K c (owR 3 c (todo 3)) (send2In m c) (sendOut 2 c) 3 ∗ R)
      ⊢ Runs c (k0_part9 xM (Memref.isWhole_whole _) oM (Memref.isWhole_whole _) bM (Memref.isWhole_whole _) rM (Memref.isWhole_whole _) cc0_scratch2 cc0_scratch3 cc0_scratch4 cc0_scratch5 c v2) Q := by
  rw [k0_part9_eq_skeleton]
  unfold k0_part9_skel
  simp only [Prog.lift, Prog.bind_op, Prog.bind_ret, Prog.pure_eq_ret]
  refine step_send2 m K c 7 3 (by decide) (dev_send2 c 3) (k0_off8_eq c) (sem_2 7 rfl _) (sem_3 c (k0_off1_eq c) _) ?_
  refine step_send2 m K c 1 4 (by decide) (dev_send2 c 4) (k0_off8_eq c) (sem_2 1 rfl _) (sem_3 c (k0_off1_eq c) _) ?_
  refine step_send2 m K c 3 5 (by decide) (dev_send2 c 5) (k0_off8_eq c) (sem_2 3 rfl _) (sem_3 c (k0_off1_eq c) _) ?_
  exact done c h

/-- and the last, and two blocks of the result waited for. -/
theorem part10 {R : sProp 𝕄} {Q : PUnit → sProp 𝕄} {v2 : BitVec 32}
    (h : iprop(St m K c 0 (waitIn 3 c) (waitOut m 3 c) 2 ∗ bigSep offs (sendOut 2 c) ∗ R) ⊢ Q ⟨⟩) :
    iprop(St m K c (owR 3 c (todo 6)) (send2In m c) (sendOut 2 c) 6 ∗ bigSep offs (waitIn 3 c) ∗ R)
      ⊢ Runs c (k0_part10 xM (Memref.isWhole_whole _) oM (Memref.isWhole_whole _) bM (Memref.isWhole_whole _) rM (Memref.isWhole_whole _) cc0_scratch2 cc0_scratch3 cc0_scratch4 cc0_scratch5 c v2) Q := by
  rw [k0_part10_eq_skeleton]
  unfold k0_part10_skel
  simp only [Prog.lift, Prog.bind_op, Prog.bind_ret, Prog.pure_eq_ret]
  refine step_send2 m K c 4 6 (by decide) (dev_send2 c 6) (k0_off8_eq c) (sem_2 4 rfl _) (sem_3 c (k0_off1_eq c) _) ?_
  refine (turn m K c (by rw [todo_last, owR_empty]) _ _ _ (waitOut m 3 c) _).trans ?_
  refine step_wait m K c 6 0 3 (by decide) (fun j => mayWait_none c _) (sem_3 (par c 6) (off6_eq c 6) _) rfl ?_
  refine step_wait m K c 2 1 3 (by decide) (fun j => mayWait_none c _) (sem_3 (par c 2) (off6_eq c 2) _) rfl ?_
  exact done c h

/-- Four more of them. -/
theorem part11 {R : sProp 𝕄} {Q : (Σ' (v52 : BitVec 32), BitVec 32) → sProp 𝕄} {v2 : BitVec 32}
    (h : ∀ v, iprop(St m K c 0 (waitIn 3 c) (waitOut m 3 c) 6 ∗ R) ⊢ Q ⟨v, 64#32⟩) :
    iprop(St m K c 0 (waitIn 3 c) (waitOut m 3 c) 2 ∗ R)
      ⊢ Runs c (k0_part11 xM (Memref.isWhole_whole _) oM (Memref.isWhole_whole _) bM (Memref.isWhole_whole _) rM (Memref.isWhole_whole _) cc0_scratch2 cc0_scratch3 cc0_scratch4 cc0_scratch5 c v2) Q := by
  rw [k0_part11_eq_skeleton]
  unfold k0_part11_skel
  simp only [Prog.lift, Prog.bind_op, Prog.bind_ret, Prog.pure_eq_ret]
  refine step_wait m K c 5 2 3 (by decide) (fun j => mayWait_none c _) (sem_3 (par c 5) (off6_eq c 5) _) rfl ?_
  refine step_wait m K c 7 3 3 (by decide) (fun j => mayWait_none c _) (sem_3 (par c 7) (off6_eq c 7) _) rfl ?_
  refine step_wait m K c 1 4 3 (by decide) (fun j => mayWait_none c _) (sem_3 (par c 1) (off6_eq c 1) _) rfl ?_
  refine step_wait m K c 3 5 3 (by decide) (fun j => mayWait_none c _) (sem_3 (par c 3) (off6_eq c 3) _) rfl ?_
  exact done c (h _)

/-- The last of them; then four of the first exchange's copies have left. -/
theorem part12 {R : sProp 𝕄} {Q : PUnit → sProp 𝕄} {v335 c64 : BitVec 32}
    (h : iprop(St m K c 0 (waitIn 0 c) (waitOut m 0 c) 4 ∗ bigSep offs (waitOut m 3 c) ∗ R) ⊢ Q ⟨⟩) :
    iprop(St m K c 0 (waitIn 3 c) (waitOut m 3 c) 6 ∗ bigSep offs (waitIn 0 c) ∗ R)
      ⊢ Runs c (k0_part12 xM (Memref.isWhole_whole _) oM (Memref.isWhole_whole _) bM (Memref.isWhole_whole _) rM (Memref.isWhole_whole _) cc0_scratch2 cc0_scratch3 cc0_scratch4 cc0_scratch5 c v335 c64) Q := by
  rw [k0_part12_eq_skeleton]
  unfold k0_part12_skel
  simp only [Prog.lift, Prog.bind_op, Prog.bind_ret, Prog.pure_eq_ret]
  refine step_wait m K c 4 6 3 (by decide) (fun j => mayWait_none c _) (sem_3 (par c 4) (off6_eq c 4) _) rfl ?_
  refine (turn m K c rfl _ _ _ (waitOut m 0 c) _).trans ?_
  refine step_wait m K c 6 0 0 (by decide) (fun j => mayWait_none c _) (sem_0 6 rfl _) rfl ?_
  refine step_wait m K c 2 1 0 (by decide) (fun j => mayWait_none c _) (sem_0 2 rfl _) rfl ?_
  refine step_wait m K c 5 2 0 (by decide) (fun j => mayWait_none c _) (sem_0 5 rfl _) rfl ?_
  refine step_wait m K c 7 3 0 (by decide) (fun j => mayWait_none c _) (sem_0 7 rfl _) rfl ?_
  exact done c h

/-- The other three; then three of the second exchange's. -/
theorem part13 {R : sProp 𝕄} {Q : PUnit → sProp 𝕄}
    (h : iprop(St m K c 0 (waitIn 2 c) (waitOut m 2 c) 3 ∗ bigSep offs (waitOut m 0 c) ∗ R) ⊢ Q ⟨⟩) :
    iprop(St m K c 0 (waitIn 0 c) (waitOut m 0 c) 4 ∗ bigSep offs (waitIn 2 c) ∗ R)
      ⊢ Runs c (k0_part13 xM (Memref.isWhole_whole _) oM (Memref.isWhole_whole _) bM (Memref.isWhole_whole _) rM (Memref.isWhole_whole _) cc0_scratch2 cc0_scratch3 cc0_scratch4 cc0_scratch5 c ) Q := by
  rw [k0_part13_eq_skeleton]
  unfold k0_part13_skel
  simp only [Prog.lift, Prog.bind_op, Prog.bind_ret, Prog.pure_eq_ret]
  refine step_wait m K c 1 4 0 (by decide) (fun j => mayWait_none c _) (sem_0 1 rfl _) rfl ?_
  refine step_wait m K c 3 5 0 (by decide) (fun j => mayWait_none c _) (sem_0 3 rfl _) rfl ?_
  refine step_wait m K c 4 6 0 (by decide) (fun j => mayWait_none c _) (sem_0 4 rfl _) rfl ?_
  refine (turn m K c rfl _ _ _ (waitOut m 2 c) _).trans ?_
  refine step_wait m K c 6 0 2 (by decide) (fun j => mayWait_none c _) (sem_2 6 rfl _) rfl ?_
  refine step_wait m K c 2 1 2 (by decide) (fun j => mayWait_none c _) (sem_2 2 rfl _) rfl ?_
  refine step_wait m K c 5 2 2 (by decide) (fun j => mayWait_none c _) (sem_2 5 rfl _) rfl ?_
  exact done c h

end Cert.KernelIdeal.AllReduce

end
-- ==== Proof.KernelIdeal.Body.lean ====
/-
The kernel's body from start to end: what a device begins with, the parts in order, and what it ends with.
-/
module

public import proofs.«01_k».proof.Proof.KernelIdeal.Parts

@[expose] public section

set_option maxRecDepth 16384

noncomputable section

namespace Cert.KernelIdeal.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Key → ℕ) (c : Dev nD)

/-! ## What a device begins with -/

/-- The tokens for its partners' barriers, for its own send semaphores and for its partners' receive semaphores. -/
def tokB (d : Fin 8) : sProp 𝕄 := dutyTok ER (barCell (par c d)) 0 d
/-- The right to pay device `c`'s own send semaphore at offset `d`, -/
def tokS (k : Fin 4) (d : Fin 8) : sProp 𝕄 := dutyTok ER (cell c k d) 0 0
/-- and the partner's receive semaphore. -/
def tokR (k : Fin 4) (d : Fin 8) : sProp 𝕄 := dutyTok ER (cell (par c d) k c) 0 0
/-- All the rights to pay that device `c` uses. -/
def toks : sProp 𝕄 :=
  iprop(bigSep offs (tokB (F := F) c) ∗ bigSep offs (tokS (F := F) c 0) ∗ bigSep offs (tokR (F := F) c 1) ∗ bigSep offs (tokS (F := F) c 2) ∗ bigSep offs (tokR (F := F) c 3))

/-- Where its own semaphores stand: before their round, after it. -/
def at0 (k : Fin 4) (d : Fin 8) : sProp 𝕄 := atPos ER (cell c k (semAt k c d)) 0 ∅ 0
/-- The position after that wait. -/
def at1 (k : Fin 4) (d : Fin 8) : sProp 𝕄 := atPos ER (cell c k (semAt k c d)) 1 ∅ 0
/-- The four nothing uses. -/
def idle : sProp 𝕄 := iprop(at0 (F := F) c 0 0 ∗ at0 (F := F) c 1 0 ∗ at0 (F := F) c 2 0 ∗ at0 (F := F) c 3 0)
/-- The landings each receive semaphore of kind `k` is promised. -/
def promised (k : Fin 4) (d : Fin 8) : sProp 𝕄 := cred (tallyAt (cell c k (semAt k c d)) () N)

/-- What the body begins with: the buffers, the credits promised to this device, its rights to pay and its positions. -/
def begun : sProp 𝕄 :=
  iprop(ctx m K ∗ owing c (O₀ c) ∗ xAll c (xstg m c) ∗ (∃ f, oAll (F := F) c f) ∗ (∃ f, bAll (F := F) c f) ∗ (∃ f, rAll (F := F) c f)
    ∗ (cred (tallyAt (barCell c) () 7) ∗ bigSep offs (promised (F := F) c 1) ∗ bigSep offs (promised (F := F) c 3))
    ∗ toks (F := F) c
    ∗ (atPos ER (barCell c) 0 ∅ 0 ∗ bigSep offs (at0 (F := F) c 0) ∗ bigSep offs (at0 (F := F) c 1) ∗ bigSep offs (at0 (F := F) c 2) ∗ bigSep offs (at0 (F := F) c 3) ∗ idle (F := F) c))

/-! ## What it ends with -/

/-- The semaphores of kind `k`, at zero. -/
def zeros (k : Fin 4) : sProp 𝕄 := bigSep Finset.univ fun j : Fin 8 => semVal (cell c k j) 0

/-- What it ends with: nothing owed, the shard kept, the result at the sum, and every semaphore at zero. -/
def ended : sProp 𝕄 :=
  iprop(owing (F := F) c 0 ∗ xAll c (xstg m c) ∗ oAll c (outF m) ∗ (∃ f, bAll (F := F) c f) ∗ (∃ f, rAll (F := F) c f)
    ∗ semVal (barCell c) 0 ∗ zeros (F := F) c 0 ∗ zeros (F := F) c 1 ∗ zeros (F := F) c 2 ∗ zeros (F := F) c 3)

/-- The eight semaphores of kind `k` by offset: the idle one and the seven used. -/
theorem peelAt (k : Fin 4) (Φ : Fin 8 → sProp 𝕄) :
    bigSep Finset.univ Φ = iprop(Φ (semAt k c 0) ∗ bigSep offs fun d => Φ (semAt k c d)) := by
  unfold semAt
  split
  · exact big_erase (Finset.mem_univ (0 : Fin 8)) Φ
  · rw [par_self]; exact peel c Φ

/-- A semaphore after its round is at zero. -/
theorem closeUsed (k : Fin 4) (d : Fin 8) : iprop(ctx m K ∗ at1 (F := F) c k d) ⊢ iprop(|={Set.univ}=> semVal (cell c k (semAt k c d)) 0) := by
  unfold at1
  iintro ⟨#Hc, Ha⟩
  iapply (Rounds.cell_close ER (rd m) (Set.mem_univ (K (c, some (k, semAt k c d)))) (fun h => h) (R := 1) (duties_later m (cell c k (semAt k c d))))
  isplitr
  · iapply (ctx_inv m K (c, some (k, semAt k c d))); iexact Hc
  iexact Ha

/-- One nothing uses still is. -/
theorem closeIdle (k : Fin 4) : iprop(ctx m K ∗ at0 (F := F) c k 0) ⊢ iprop(|={Set.univ}=> semVal (cell c k (semAt k c 0)) 0) := by
  have hu : used c (k, semAt k c 0) = false := by revert k c; decide
  unfold at0
  iintro ⟨#Hc, Ha⟩
  iapply (Rounds.cell_close ER (rd m) (Set.mem_univ (K (c, some (k, semAt k c 0)))) (fun h => h) (R := 0) (duties_unused m c k (semAt k c 0) hu))
  isplitr
  · iapply (ctx_inv m K (c, some (k, semAt k c 0))); iexact Hc
  iexact Ha

/-- Once its waits are over, each of the eight semaphores of a kind is taken back at zero, -/
theorem closeKind (k : Fin 4) : iprop(ctx m K ∗ bigSep offs (at1 (F := F) c k) ∗ at0 (F := F) c k 0) ⊢ iprop(|={Set.univ}=> zeros (F := F) c k) := by
  unfold zeros
  rw [peelAt c k]
  iintro ⟨#Hc, Hs, H⟩
  imod (closeIdle m K c k) $$ [H] with H
  · isplitr; · iexact Hc
    iexact H
  imod ((bigSep_with_persistent (fun d _ => closeUsed m K c k d)).trans (bigSep_fupd _ _)) $$ [Hs] with Hs
  · isplitr; · iexact Hc
    iexact Hs
  imodintro
  isplitl [H] <;> iassumption

/-- and so is the barrier's. -/
theorem closeBar : iprop(ctx m K ∗ atPos ER (barCell c) 1 ∅ 0) ⊢ iprop(|={Set.univ}=> semVal (barCell c) 0) := by
  iintro ⟨#Hc, Ha⟩
  iapply (Rounds.cell_close ER (rd m) (Set.mem_univ (K (c, none))) (fun h => h) (R := 1) (duties_later m (barCell c)))
  isplitr
  · iapply (ctx_inv m K (c, none)); iexact Hc
  iexact Ha

/-! ## The buffers between the phases -/

/-- If each part holds with given contents, each holds with some. -/
theorem big_exists {A : Type} (s : Finset (Fin 8)) (Φ : Fin 8 → A → sProp 𝕄) (a : A) : (bigSep s fun d => Φ d a) ⊢ bigSep s fun d => iprop(∃ a, Φ d a) := by
  have e : ∀ d, Φ d a ⊢ iprop(∃ a, Φ d a) := fun d => by iintro H; iexists a; iexact H
  exact bigSep_mono fun d _ => e d

/-- The receive buffer and the result, whole, are the partners' places and this device's own. -/
theorem lend_all : iprop((∃ f, oAll (F := F) c f) ∗ (∃ f, rAll (F := F) c f))
    ⊢ iprop((bigSep offs fun d => lendP (F := F) c (par c d)) ∗ (∃ f, outP (F := F) c c fullShare f) ∗ (∃ f, slotP (F := F) c c f)) := by
  iintro ⟨⟨%f, Ho⟩, ⟨%g, Hr⟩⟩
  icases (Entails.of_eq ((oAll_blocks c f).trans (peel c _))) $$ Ho with ⟨Hoc, Ho⟩
  icases (Entails.of_eq ((rAll_blocks c g).trans (peel c _))) $$ Hr with ⟨Hrc, Hr⟩
  isplitl [Ho Hr]
  · unfold lendP
    rw [big_sep]
    isplitl [Hr]
    · iapply (big_exists offs (fun d f => slotP (F := F) c (par c d) f) g); iexact Hr
    · iapply (big_exists offs (fun d f => outP (F := F) c (par c d) fullShare f) f); iexact Ho
  isplitl [Hoc]; · iexists f; iexact Hoc
  iexists g; iexact Hrc

/-- The copy made, it is this device's own block and a block for each partner. -/
theorem copied (f : (cc0_scratch0 : Ref sig .tc).ty.Contents (Elt F)) :
    bAll c f = iprop(copyP c c f ∗ bigSep offs fun d => copyP c (par c d) f) := (bAll_blocks c f).trans (peel c _)

/-- The result is this device's own block and one from each partner. -/
theorem result (f : (cc0_stg1_0 : Ref sig .tc).ty.Contents (Elt F)) :
    oAll c f = iprop(outP c c fullShare f ∗ bigSep offs fun d => outP c (par c d) fullShare f) := (oAll_blocks c f).trans (peel c _)

/-- What the phases of waits gave back, with what was kept, is the copy and the result, whole, and every semaphore at zero. -/
theorem finish : iprop(ctx m K ∗ owing (F := F) c 0 ∗ xAll c (xstg m c) ∗ copyP c c (copyF m c) ∗ outP c c (eighth 0) (outF m) ∗ rAll c (recvF m c)
      ∗ atPos ER (barCell c) 1 ∅ 0 ∗ bigSep offs (waitOut m 0 c) ∗ bigSep offs (at1 (F := F) c 1) ∗ bigSep offs (waitOut m 2 c) ∗ bigSep offs (waitOut m 3 c)
      ∗ idle (F := F) c) ⊢ iprop(|={Set.univ}=> ended m c) := by
  unfold idle ended
  iintro ⟨#Hc, HO, Hx, Hb, Ho, Hr, HB, H0, H1, H2, H3, I0, I1, I2, I3⟩
  icases (Entails.of_eq (waitOut_sep m c 0)) $$ H0 with ⟨A0, G0⟩
  icases (Entails.of_eq (waitOut_sep m c 2)) $$ H2 with ⟨A2, G2⟩
  icases (Entails.of_eq (waitOut_sep m c 3)) $$ H3 with ⟨A3, G3⟩
  imod (closeBar m K c) $$ [HB] with HB
  · isplitr; · iexact Hc
    iexact HB
  imod (closeKind m K c 0) $$ [A0 I0] with Z0
  · isplitr; · iexact Hc
    isplitl [A0]; · iexact A0
    iexact I0
  imod (closeKind m K c 1) $$ [H1 I1] with Z1
  · isplitr; · iexact Hc
    isplitl [H1]; · iexact H1
    iexact I1
  imod (closeKind m K c 2) $$ [A2 I2] with Z2
  · isplitr; · iexact Hc
    isplitl [A2]; · iexact A2
    iexact I2
  imod (closeKind m K c 3) $$ [A3 I3] with Z3
  · isplitr; · iexact Hc
    isplitl [A3]; · iexact A3
    iexact I3
  imodintro
  isplitl [HO]; · iexact HO
  isplitl [Hx]; · iexact Hx
  isplitl [Ho G2 G3]
  · rw [result, out_eighths]
    isplitl [Ho G2]
    · isplitl [Ho]; · iexact Ho
      iexact G2
    iexact G3
  isplitl [Hb G0]
  · iexists (copyF m c)
    rw [copied]
    isplitl [Hb]; · iexact Hb
    iexact G0
  isplitl [Hr]; · iexists _; iexact Hr
  isplitl [HB]; · iexact HB
  isplitl [Z0]; · iexact Z0
  isplitl [Z1]; · iexact Z1
  isplitl [Z2] <;> iassumption

/-! ## The body -/

/-- Ready for the signals. -/
theorem ready0 {R P : sProp 𝕄}
    (h : iprop(xAll c (xstg m c) ∗ (∃ f, bAll (F := F) c f) ∗ St m K c (owR 3 c offs + owR 1 c offs + owB c (todo 0)) (sigIn c) sigOut 0
      ∗ (∃ f, outP (F := F) c c fullShare f) ∗ (∃ f, slotP (F := F) c c f) ∗ R) ⊢ P) :
    iprop(ctx m K ∗ owing c (O₀ c) ∗ xAll c (xstg m c) ∗ (∃ f, oAll (F := F) c f) ∗ (∃ f, bAll (F := F) c f) ∗ (∃ f, rAll (F := F) c f)
      ∗ bigSep offs (tokB (F := F) c) ∗ R) ⊢ P := by
  have e : iprop(ctx m K ∗ owing c (O₀ c) ∗ xAll c (xstg m c) ∗ (∃ f, oAll (F := F) c f) ∗ (∃ f, bAll (F := F) c f) ∗ (∃ f, rAll (F := F) c f)
      ∗ bigSep offs (tokB (F := F) c) ∗ R)
      ⊢ iprop(xAll c (xstg m c) ∗ (∃ f, bAll (F := F) c f) ∗ St m K c (owR 3 c offs + owR 1 c offs + owB c (todo 0)) (sigIn c) sigOut 0
      ∗ (∃ f, outP (F := F) c c fullShare f) ∗ (∃ f, slotP (F := F) c c f) ∗ R) := by
    iintro ⟨#Hc, HO, Hx, Ho, Hb, Hr, Ht, HR⟩
    icases (lend_all c) $$ [Ho Hr] with ⟨Hl, Ho, Hs⟩
    · isplitl [Ho] <;> iassumption
    isplitl [Hx]; · iexact Hx
    isplitl [Hb]; · iexact Hb
    isplitl [HO Ht Hl]
    · rw [show owR 3 c offs + owR 1 c offs + owB c (todo 0) = O₀ c from by rw [todo_first]; rfl]
      iapply (St_first m K c _ _ _)
      unfold sigIn
      rw [big_sep]
      isplitr; · iexact Hc
      isplitl [HO]; · iexact HO
      isplitl [Ht]; · iexact Ht
      iexact Hl
    isplitl [Ho]; · iexact Ho
    isplitl [Hs] <;> iassumption
  exact e.trans h

/-- Ready for the first exchange. -/
theorem ready2 {A R P : sProp 𝕄} (h : iprop(A ∗ bigSep offs (ready1 m c) ∗ copyP c c (copyF m c) ∗ R) ⊢ P) :
    iprop(A ∗ bAll c (copyF m c) ∗ bigSep offs (tokS (F := F) c 0) ∗ bigSep offs (tokR (F := F) c 1) ∗ R) ⊢ P := by
  have e : iprop(A ∗ bAll c (copyF m c) ∗ bigSep offs (tokS (F := F) c 0) ∗ bigSep offs (tokR (F := F) c 1) ∗ R)
      ⊢ iprop(A ∗ bigSep offs (ready1 m c) ∗ copyP c c (copyF m c) ∗ R) := by
    rw [copied]
    unfold ready1
    rw [big_sep, big_sep]
    iintro ⟨HA, ⟨Hc, Hb⟩, Ht, Ht', HR⟩
    isplitl [HA]; · iexact HA
    isplitl [Hb Ht Ht']
    · isplitl [Hb]; · iexact Hb
      isplitl [Ht]; · iexact Ht
      iexact Ht'
    isplitl [Hc] <;> iassumption
  exact e.trans h

/-- Ready for the waits of a kind. -/
theorem readyWait (k : Fin 4) : iprop(bigSep offs (promised (F := F) c k) ∗ bigSep offs (at0 (F := F) c k)) ⊢ bigSep offs (waitIn k c) :=
  Entails.of_eq (big_sep offs (promised (F := F) c k) (at0 (F := F) c k)).symm

/-- Ready for the second exchange. -/
theorem ready3 {R P : sProp 𝕄} (h : iprop(St m K c (owR 3 c (todo 0)) (send2In m c) (sendOut 2 c) 0 ∗ outP c c (eighth 0) (outF m) ∗ R) ⊢ P) :
    iprop(ctx m K ∗ owing c (owR 3 c offs) ∗ outP c c fullShare (outF m) ∗ (bigSep offs fun d => iprop(∃ f, outP (F := F) (par c d) c fullShare f))
      ∗ bigSep offs (tokS (F := F) c 2) ∗ bigSep offs (tokR (F := F) c 3) ∗ R) ⊢ P := by
  have e : iprop(ctx m K ∗ owing c (owR 3 c offs) ∗ outP c c fullShare (outF m) ∗ (bigSep offs fun d => iprop(∃ f, outP (F := F) (par c d) c fullShare f))
      ∗ bigSep offs (tokS (F := F) c 2) ∗ bigSep offs (tokR (F := F) c 3) ∗ R)
      ⊢ iprop(St m K c (owR 3 c (todo 0)) (send2In m c) (sendOut 2 c) 0 ∗ outP c c (eighth 0) (outF m) ∗ R) := by
    rw [out_eighths]
    iintro ⟨#Hc, HO, ⟨Ho, Hos⟩, Hl, Ht, Ht', HR⟩
    isplitl [HO Hos Hl Ht Ht']
    · rw [show owR 3 c (todo 0) = owR 3 c offs from by rw [todo_first]]
      iapply (St_first m K c _ _ _)
      unfold send2In
      rw [big_sep, big_sep, big_sep]
      isplitr; · iexact Hc
      isplitl [HO]; · iexact HO
      isplitl [Hos]; · iexact Hos
      isplitl [Hl]; · iexact Hl
      isplitl [Ht]; · iexact Ht
      iexact Ht'
    isplitl [Ho] <;> iassumption
  exact e.trans h

/-- The first exchange's copies started, ready to wait for its landings. -/
theorem ready4 {A R P : sProp 𝕄}
    (h : iprop(St m K c (owR 3 c offs) (waitIn 1 c) (waitOut m 1 c) 0 ∗ A ∗ bigSep offs (sendOut (F := F) 0 c) ∗ R) ⊢ P) :
    iprop(A ∗ St m K c (owR 3 c offs + owR 1 c (todo 7)) (send1In m c) (sendOut 0 c) 7 ∗ bigSep offs (promised (F := F) c 1) ∗ bigSep offs (at0 (F := F) c 1) ∗ R) ⊢ P := by
  have e : iprop(A ∗ St m K c (owR 3 c offs + owR 1 c (todo 7)) (send1In m c) (sendOut 0 c) 7 ∗ bigSep offs (promised (F := F) c 1) ∗ bigSep offs (at0 (F := F) c 1) ∗ R)
      ⊢ iprop(St m K c (owR 3 c offs) (waitIn 1 c) (waitOut m 1 c) 0 ∗ A ∗ bigSep offs (sendOut (F := F) 0 c) ∗ R) := by
    have hO : owR 3 c offs + owR 1 c (todo 7) = owR 3 c offs := by rw [todo_last, owR_empty, add_zero]
    iintro ⟨HA, HS, Hp, Ht, HR⟩
    icases (readyWait c 1) $$ [Hp Ht] with Hw
    · isplitl [Hp] <;> iassumption
    icases (turn m K c hO (send1In m c) (sendOut 0 c) (waitIn 1 c) (waitOut m 1 c) iprop(emp)) $$ [HS Hw] with ⟨HS, Ho, -⟩
    · isplitl [HS]; · iexact HS
      isplitl [Hw]; · iexact Hw
      iempintro
    iframe
  exact e.trans h

/-- The body, from what a device begins with to what it ends with. -/
theorem body {R : sProp 𝕄} {Q : PUnit → sProp 𝕄} (h : iprop(ended m c ∗ R) ⊢ iprop(|={Set.univ}=> Q ⟨⟩)) :
    iprop(begun m K c ∗ R)
      ⊢ Runs c (cc0_body xM (Memref.isWhole_whole _) oM (Memref.isWhole_whole _) bM (Memref.isWhole_whole _) rM (Memref.isWhole_whole _) cc0_scratch2 cc0_scratch3 cc0_scratch4 cc0_scratch5) Q := by
  rw [cc0_body_eq_skeleton]
  unfold cc0_body_skel
  simp only [wp_bind, Prog.lift, Prog.pure_eq_ret]
  -- the signals
  have p0 : ∀ X1 X2 X3 X4 X5 X6 C C1 C3 TB T0 T1 T2 T3 B A0 A1 A2 A3 I X : sProp 𝕄,
      iprop((X1 ∗ X2 ∗ X3 ∗ X4 ∗ X5 ∗ X6 ∗ (C ∗ C1 ∗ C3) ∗ (TB ∗ T0 ∗ T1 ∗ T2 ∗ T3) ∗ (B ∗ A0 ∗ A1 ∗ A2 ∗ A3 ∗ I)) ∗ X)
        ⊢ iprop(X1 ∗ X2 ∗ X3 ∗ X4 ∗ X5 ∗ X6 ∗ TB ∗ C ∗ B ∗ T0 ∗ T1 ∗ C1 ∗ A1 ∗ T2 ∗ T3 ∗ C3 ∗ A3 ∗ A0 ∗ A2 ∗ I ∗ X) :=
    fun X1 X2 X3 X4 X5 X6 C C1 C3 TB T0 T1 T2 T3 B A0 A1 A2 A3 I X => by
      iintro ⟨⟨X1, X2, X3, X4, X5, X6, ⟨C, C1, C3⟩, ⟨TB, T0, T1, T2, T3⟩, B, A0, A1, A2, A3, I⟩, X⟩
      iframe
  unfold begun toks
  refine (p0 _ _ _ _ _ _ _ _ _ _ _ _ _ _ _ _ _ _ _ _ _).trans (ready0 m K c (part1 m K c fun v2 v24 => ?_))
  -- the barrier, and the first exchange's copies
  have p1 : ∀ S Hx Hb Ho Hs C B T0 T1 X : sProp 𝕄,
      iprop(S ∗ Hx ∗ Hb ∗ Ho ∗ Hs ∗ C ∗ B ∗ T0 ∗ T1 ∗ X) ⊢ iprop((S ∗ C ∗ B) ∗ Hb ∗ T0 ∗ T1 ∗ Hs ∗ Ho ∗ Hx ∗ X) :=
    fun S Hx Hb Ho Hs C B T0 T1 X => by
      iintro ⟨S, Hx, Hb, Ho, Hs, C, B, T0, T1, X⟩
      iframe
  have p2 : ∀ S C B T X : sProp 𝕄, iprop((S ∗ C ∗ B) ∗ T ∗ X) ⊢ iprop(S ∗ C ∗ B ∗ T ∗ X) := fun S C B T X => by
    iintro ⟨⟨S, C, B⟩, T, X⟩
    iframe
  refine (p1 _ _ _ _ _ _ _ _ _ _).trans (ready2 m c ((p2 _ _ _ _ _).trans (part2 m K c fun v52 => part3 m K c fun v85 => ?_)))
  -- its landings, and the sum
  have p3 : ∀ S B L C Hs X : sProp 𝕄, iprop(S ∗ B ∗ L ∗ C ∗ Hs ∗ X) ⊢ iprop(S ∗ C ∗ Hs ∗ B ∗ L ∗ X) := fun S B L C Hs X => by
    iintro ⟨S, B, L, C, Hs, X⟩
    iframe
  have p4 : ∀ Hs S C B L Ho Hx C1 A1 X : sProp 𝕄,
      iprop(Hs ∗ S ∗ C ∗ B ∗ L ∗ Ho ∗ Hx ∗ C1 ∗ A1 ∗ X) ⊢ iprop(Hs ∗ S ∗ C1 ∗ A1 ∗ Ho ∗ C ∗ B ∗ L ∗ Hx ∗ X) := fun Hs S C B L Ho Hx C1 A1 X => by
    iintro ⟨Hs, S, C, B, L, Ho, Hx, C1, A1, X⟩
    iframe
  have p5 : ∀ Hr Hc HO A D Ho X : sProp 𝕄, iprop(Hr ∗ Hc ∗ HO ∗ A ∗ D ∗ Ho ∗ X) ⊢ iprop(Hr ∗ Ho ∗ Hc ∗ HO ∗ A ∗ D ∗ X) := fun Hr Hc HO A D Ho X => by
    iintro ⟨Hr, Hc, HO, A, D, Ho, X⟩
    iframe
  refine (p3 _ _ _ _ _ _).trans (part4 m K c ((p4 _ _ _ _ _ _ _ _ _ _).trans (ready4 m K c
    (part5 m K c (part6 m K c ((p5 _ _ _ _ _ _ _).trans (part7 m c ?_)))))))
  -- the second exchange
  have p6 : ∀ Ho Hr Hc HO A D C B L Hx T2 T3 C3 A3 X : sProp 𝕄,
      iprop(Ho ∗ Hr ∗ Hc ∗ HO ∗ A ∗ D ∗ C ∗ B ∗ L ∗ Hx ∗ T2 ∗ T3 ∗ C3 ∗ A3 ∗ X)
        ⊢ iprop(Hc ∗ HO ∗ Ho ∗ L ∗ T2 ∗ T3 ∗ (C3 ∗ A3) ∗ Hr ∗ A ∗ D ∗ C ∗ B ∗ Hx ∗ X) := fun Ho Hr Hc HO A D C B L Hx T2 T3 C3 A3 X => by
    iintro ⟨Ho, Hr, Hc, HO, A, D, C, B, L, Hx, T2, T3, C3, A3, X⟩
    iframe
  have p7 : ∀ S Ho W W' X : sProp 𝕄, (W ⊢ W') → iprop(S ∗ Ho ∗ W ∗ X) ⊢ iprop(S ∗ W' ∗ Ho ∗ X) := fun S Ho W W' X e => by
    iintro ⟨S, Ho, W, X⟩
    icases e $$ W with W
    iframe
  refine (p6 _ _ _ _ _ _ _ _ _ _ _ _ _ _ _).trans (ready3 m K c (part8 m K c (part9 m K c ((p7 _ _ _ _ _ (readyWait c 3)).trans
    (part10 m K c (part11 m K c fun v335 => ?_))))))
  -- the copies have left
  have p8 : ∀ S D2 Ho Hr A D0 C B Hx A0 A2 I X W : sProp 𝕄, (iprop(D0 ∗ A0) ⊢ W) →
      iprop(S ∗ D2 ∗ Ho ∗ Hr ∗ A ∗ D0 ∗ C ∗ B ∗ Hx ∗ A0 ∗ A2 ∗ I ∗ X) ⊢ iprop(S ∗ W ∗ D2 ∗ A2 ∗ Ho ∗ Hr ∗ A ∗ C ∗ B ∗ Hx ∗ I ∗ X) :=
    fun S D2 Ho Hr A D0 C B Hx A0 A2 I X W e => by
      iintro ⟨S, D2, Ho, Hr, A, D0, C, B, Hx, A0, A2, I, X⟩
      icases e $$ [D0 A0] with W
      · iframe
      iframe
  have p9 : ∀ S G3 D2 A2 X W : sProp 𝕄, (iprop(D2 ∗ A2) ⊢ W) → iprop(S ∗ G3 ∗ D2 ∗ A2 ∗ X) ⊢ iprop(S ∗ W ∗ G3 ∗ X) := fun S G3 D2 A2 X W e => by
    iintro ⟨S, G3, D2, A2, X⟩
    icases e $$ [D2 A2] with W
    · iframe
    iframe
  refine (p8 _ _ _ _ _ _ _ _ _ _ _ _ _ _ (readyWait c 0)).trans (part12 m K c ((p9 _ _ _ _ _ _ (readyWait c 2)).trans (part13 m K c ?_)))
  refine step_wait m K c 7 3 2 (by decide) (fun j => mayWait_none c _) (sem_2 7 rfl _) rfl (done c ?_)
  refine step_wait m K c 1 4 2 (by decide) (fun j => mayWait_none c _) (sem_2 1 rfl _) rfl (done c ?_)
  refine step_wait m K c 3 5 2 (by decide) (fun j => mayWait_none c _) (sem_2 3 rfl _) rfl (done c ?_)
  refine step_wait m K c 4 6 2 (by decide) (fun j => mayWait_none c _) (sem_2 4 rfl _) rfl (done c ?_)
  rw [wp_ret]
  have p10 : iprop(St m K c 0 (waitIn 2 c) (waitOut m 2 c) 7 ∗ bigSep offs (waitOut m 0 c) ∗ bigSep offs (waitOut m 3 c) ∗ outP c c (eighth 0) (outF m)
      ∗ rAll c (recvF m c) ∗ bigSep offs (at1 (F := F) c 1) ∗ copyP c c (copyF m c) ∗ atPos ER (barCell c) 1 ∅ 0 ∗ xAll c (xstg m c) ∗ idle (F := F) c ∗ R)
      ⊢ iprop(|={Set.univ}=> (ended m c ∗ R)) := by
    iintro ⟨S, G0, G3, Ho, Hr, A, C, B, Hx, I, X⟩
    icases (St_last m K c _ _ _) $$ S with ⟨Hc, HO, G2⟩
    imod (finish m K c) $$ [Hc HO G2 G0 G3 Ho Hr A C B Hx I] with H
    · iframe
    imodintro
    iframe
  refine p10.trans ((BI.fupd_mono h).trans ?_)
  iintro H
  imod H
  imod H
  imodintro
  iexact H

end Cert.KernelIdeal.AllReduce

end
-- ==== Proof.KernelIdeal.Deal.lean ====
/-
What the launch deals each device: its semaphores' positions, the tokens of what it sends, and the promises of what it
is sent.
-/
module

public import proofs.«01_k».proof.Proof.KernelIdeal.Body

@[expose] public section

noncomputable section

namespace Cert.KernelIdeal.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## A device's semaphores, by kind and offset -/

/-- A product over the four kinds, spelt out, -/
theorem four (Φ : Fin 4 → sProp 𝕄) : bigSep Finset.univ Φ = iprop(Φ 0 ∗ Φ 1 ∗ Φ 2 ∗ Φ 3) :=
  bigSep_univ_eq_bigSepL [0, 1, 2, 3] (by decide) (by decide) Φ
/-- and one over the barrier and the four kinds. -/
theorem five (Φ : Option (Fin 4) → sProp 𝕄) : bigSep Finset.univ Φ = iprop(Φ none ∗ Φ (some 0) ∗ Φ (some 1) ∗ Φ (some 2) ∗ Φ (some 3)) :=
  bigSep_univ_eq_bigSepL [none, some 0, some 1, some 2, some 3] (by decide) (by decide) Φ

/-- All of a device's semaphores: the barrier's, and eight of each kind. -/
theorem allKeys (Φ : Key → sProp 𝕄) :
    bigSep Finset.univ Φ = iprop(Φ none ∗ bigSep Finset.univ fun kj : Fin 4 × Fin 8 => Φ (some kj)) := by
  rw [bigSep_univ_at Φ none]
  refine congrArg (fun X : sProp 𝕄 => iprop(Φ none ∗ X)) ?_
  rw [show (Finset.univ.erase none : Finset Key) = Finset.univ.map Function.Embedding.some from by decide, bigSep_map]
  rfl

/-- One kind's: the one nothing uses, and the seven by offset. -/
def kindOf (c : Dev nD) (Φ : Key → sProp 𝕄) (k : Fin 4) : sProp 𝕄 :=
  iprop(Φ (some (k, semAt k c 0)) ∗ bigSep offs fun d => Φ (some (k, semAt k c d)))
/-- A product over all semaphores of a device, grouped by kind. -/
theorem byKey (c : Dev nD) (Φ : Key → sProp 𝕄) :
    bigSep Finset.univ Φ = iprop(Φ none ∗ kindOf c Φ 0 ∗ kindOf c Φ 1 ∗ kindOf c Φ 2 ∗ kindOf c Φ 3) := by
  unfold kindOf
  rw [allKeys, bigSep_univ_prod, four, peelAt c 0, peelAt c 1, peelAt c 2, peelAt c 3]

/-! ## Positions -/

/-- The positions at all of device `c`'s semaphores, grouped as the body uses them. -/
def held (c : Dev nD) : sProp 𝕄 :=
  iprop(atPos ER (barCell c) 0 ∅ 0 ∗ bigSep offs (at0 (F := F) c 0) ∗ bigSep offs (at0 (F := F) c 1) ∗ bigSep offs (at0 (F := F) c 2) ∗ bigSep offs (at0 (F := F) c 3) ∗ idle (F := F) c)

/-- They are the positions that the launch makes. -/
theorem held_intro (c : Dev nD) : (bigSep Finset.univ fun k : Key => (atPos ER (kcell (c, k)) 0 ∅ 0 : sProp 𝕄)) ⊢ held c := by
  rw [byKey c]
  unfold kindOf held idle
  iintro ⟨B, ⟨I0, A0⟩, ⟨I1, A1⟩, ⟨I2, A2⟩, ⟨I3, A3⟩⟩
  isplitl [B]; · iexact B
  isplitl [A0]; · iexact A0
  isplitl [A1]; · iexact A1
  isplitl [A2]; · iexact A2
  isplitl [A3]; · iexact A3
  isplitl [I0]; · unfold at0; iexact I0
  isplitl [I1]; · unfold at0; iexact I1
  isplitl [I2]; · unfold at0; iexact I2
  unfold at0; iexact I3

/-! ## Tokens -/

/-- The tokens of device `x.1`'s own semaphores: eight for its barrier, and one for each of the others. -/
def tokOf (x : Dev nD × Option (Fin 4) × Fin 8) : GSem nD τ sig × ℕ × Fin 8 :=
  match x.2.1 with
  | none => (barCell x.1, 0, x.2.2)
  | some k => (cell x.1 k x.2.2, 0, 0)
/-- Different payments are different tokens. -/
theorem tokOf_injective : Function.Injective tokOf := by
  rintro ⟨c, o, d⟩ ⟨c', o', d'⟩ h
  match o, o', h with
  | none, none, h =>
    have h1 := kcell_injective (a₁ := (c, none)) (a₂ := (c', none)) (congrArg (fun x : GSem nD τ sig × ℕ × Fin 8 => x.1) h)
    have h2 : d = d' := congrArg (fun x : GSem nD τ sig × ℕ × Fin 8 => x.2.2) h
    rw [(Prod.mk.inj h1).1, h2]
  | none, some k', h => exact absurd (kcell_injective (a₁ := (c, none)) (a₂ := (c', some (k', d'))) (congrArg (fun x : GSem nD τ sig × ℕ × Fin 8 => x.1) h)) (by simp)
  | some k, none, h => exact absurd (kcell_injective (a₁ := (c, some (k, d))) (a₂ := (c', none)) (congrArg (fun x : GSem nD τ sig × ℕ × Fin 8 => x.1) h)) (by simp)
  | some k, some k', h =>
    have h1 := kcell_injective (a₁ := (c, some (k, d))) (a₂ := (c', some (k', d'))) (congrArg (fun x : GSem nD τ sig × ℕ × Fin 8 => x.1) h)
    obtain ⟨h2, h3⟩ := Prod.mk.inj h1
    obtain ⟨h4, h5⟩ := Prod.mk.inj (Option.some.inj h3)
    rw [h2, h4, h5]

/-- The tokens for payments into device `c`'s semaphores. -/
def minted (c : Dev nD) : sProp 𝕄 :=
  bigSep Finset.univ fun x : Option (Fin 4) × Fin 8 => dutyTok ER (tokOf (c, x)).1 (tokOf (c, x)).2.1 (tokOf (c, x)).2.2

/-- Its own, by semaphore. -/
theorem minted_eq (c : Dev nD) : minted (F := F) c
    = iprop((bigSep Finset.univ fun d : Fin 8 => dutyTok ER (barCell c) 0 d) ∗ (bigSep Finset.univ fun j : Fin 8 => dutyTok ER (cell c 0 j) 0 0)
      ∗ (bigSep Finset.univ fun j : Fin 8 => dutyTok ER (cell c 1 j) 0 0) ∗ (bigSep Finset.univ fun j : Fin 8 => dutyTok ER (cell c 2 j) 0 0)
      ∗ (bigSep Finset.univ fun j : Fin 8 => dutyTok ER (cell c 3 j) 0 0)) := by
  unfold minted
  rw [bigSep_univ_prod, five]
  rfl

/-- A family of each device's, dealt to its partners by offset. -/
theorem deal_flip (Φ : Dev nD → Fin 8 → sProp 𝕄) :
    (bigSep Finset.univ fun c => bigSep Finset.univ (Φ c)) ⊢ bigSep Finset.univ fun c => bigSep offs fun d => Φ (par c d) d := by
  have h : (bigSep Finset.univ fun c => bigSep Finset.univ (Φ c)) = bigSep Finset.univ fun c => bigSep Finset.univ fun d => Φ (par c d) d := by
    rw [bigSep_univ_comm, bigSep_univ_comm (fun c d => Φ (par c d) d)]
    exact congrArg (bigSep Finset.univ) (funext fun d => bigSep_univ_equiv (flip d) fun c => Φ c d)
  rw [h]
  exact bigSep_mono fun c _ => big_sub (Finset.erase_subset _ _) _

/-- A family of each device's, dealt to the devices its members are for. -/
theorem deal_spread (Φ : Dev nD → Fin 8 → sProp 𝕄) :
    (bigSep Finset.univ fun c => bigSep Finset.univ (Φ c)) ⊢ bigSep Finset.univ fun c => bigSep offs fun d => Φ (par c d) c := by
  have h : (bigSep Finset.univ fun c => bigSep Finset.univ (Φ c)) = bigSep Finset.univ fun c => bigSep Finset.univ fun d => Φ (par c d) c := by
    rw [bigSep_univ_comm]
    exact congrArg (bigSep Finset.univ) (funext fun c => bigSep_univ_equiv (spread c) fun c' => Φ c' c)
  rw [h]
  exact bigSep_mono fun c _ => big_sub (Finset.erase_subset _ _) _

/-- Handing a family over the offsets across at each offset only permutes it. -/
theorem deal_keep (Φ : Dev nD → Fin 8 → sProp 𝕄) :
    (bigSep Finset.univ fun c => bigSep Finset.univ (Φ c)) ⊢ bigSep Finset.univ fun c => bigSep offs (Φ c) :=
  bigSep_mono fun c _ => big_sub (Finset.erase_subset _ _) _

/-- Every token is dealt to the device that pays with it. -/
theorem toks_dealt : (bigSep Finset.univ (minted (F := F))) ⊢ bigSep Finset.univ (toks (F := F)) := by
  rw [show (minted (F := F)) = _ from funext minted_eq]
  unfold toks
  rw [bigSep_sep', bigSep_sep', bigSep_sep', bigSep_sep', bigSep_sep', bigSep_sep', bigSep_sep', bigSep_sep']
  iintro ⟨B, T0, T1, T2, T3⟩
  isplitl [B]; · iapply (deal_flip fun c d => (dutyTok ER (barCell c) 0 d : sProp 𝕄)); iexact B
  isplitl [T0]; · iapply (deal_keep fun c d => (dutyTok ER (cell c 0 d) 0 0 : sProp 𝕄)); iexact T0
  isplitl [T1]; · iapply (deal_spread fun c d => (dutyTok ER (cell c 1 d) 0 0 : sProp 𝕄)); iexact T1
  isplitl [T2]; · iapply (deal_keep fun c d => (dutyTok ER (cell c 2 d) 0 0 : sProp 𝕄)); iexact T2
  iapply (deal_spread fun c d => (dutyTok ER (cell c 3 d) 0 0 : sProp 𝕄)); iexact T3

/-! ## The launch element -/

/-- The semaphores that the schedule runs. -/
def ringCells : Finset (GSem nD τ sig) := Finset.univ.map ⟨kcell, kcell_injective⟩
/-- The tokens that it starts with. -/
def ringToks : Finset (GSem nD τ sig × ℕ × Fin 8) := Finset.univ.map ⟨tokOf, tokOf_injective⟩
/-- The ghost state at launch. -/
def u₀ : UU := (initOf (Pipeline.cells cfgs cellOf_inj) (Pipeline.launchToks cfgs cellOf_inj), initOf ringCells ringToks)

/-- Device `c`'s share of the launch element. -/
def G (c : Dev nD) : sProp 𝕄 :=
  iprop((bigSep Finset.univ fun k : Key => roundState ER (rd m) (kcell (c, k)) 0) ∗ (bigSep Finset.univ fun k : Key => reached ER (kcell (c, k)) 0)
    ∗ (bigSep Finset.univ fun k : Key => atPos ER (kcell (c, k)) 0 ∅ 0) ∗ minted (F := F) c)
/-- What it makes of it with the others'. -/
def G' (c : Dev nD) : sProp 𝕄 := iprop(∃ K, records m K ∗ held (F := F) c ∗ toks (F := F) c)

/-- It funds every device's share. -/
theorem fund_all : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Key => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => minted c := by
    unfold ringToks; rw [bigSep_map, bigSep_univ_prod]; rfl
  iintro HX
  imod (Rounds.fund ER (rd m) ringCells ringToks) $$ HX with ⟨Hst, Hr, Hat, Htok⟩
  imodintro
  unfold G
  rw [bigSep_sep', bigSep_sep', bigSep_sep']
  isplitl [Hst]; · iapply (Entails.of_eq (hX fun g => roundState ER (rd m) g 0)); iexact Hst
  isplitl [Hr]; · iapply (Entails.of_eq (hX fun g => reached ER g 0)); iexact Hr
  isplitl [Hat]; · iapply (Entails.of_eq (hX fun g => atPos ER g 0 ∅ 0)); iexact Hat
  iapply (Entails.of_eq hT); iexact Htok

/-- The barrier's semaphore is the one that outlives the kernel. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- The kernel's own semaphores and the barrier's, at zero. -/
theorem sems0 (c : Dev nD) :
    iprop(Pipeline.ownSems0 (Ix := Unit) (Name := ℕ) (U := UU) (Lvl := ℕ) (Val := Elt F) (τ := τ) osem c ∗ unscopedSems0 c)
      ⊢ (bigSep Finset.univ fun k : Key => semVal (kcell (c, k)) 0 : sProp 𝕄) := by
  rw [unscopedSems0_eq, allKeys]
  unfold Pipeline.ownSems0
  iintro ⟨H, B⟩
  isplitl [B]; · iexact B
  iexact H

/-- On one device, semaphores at zero become invariants. -/
theorem core_alloc (c : Dev nD) :
    iprop(Pipeline.ownSems0 (Ix := Unit) (Name := ℕ) (U := UU) (Lvl := ℕ) (Val := Elt F) (τ := τ) osem c ∗ unscopedSems0 c ∗ G m c)
      ⊢ iprop(|={Set.univ}=> ((bigSep Finset.univ fun k : Key => iprop(∃ κ : ℕ, cellInv ER (rd m) κ (kcell (c, k))))
          ∗ (bigSep Finset.univ fun k : Key => reached ER (kcell (c, k)) 0) ∗ held (F := F) c ∗ minted (F := F) c)) := by
  have e : iprop((bigSep Finset.univ fun k : Key => semVal (kcell (c, k)) 0) ∗ bigSep Finset.univ fun k : Key => roundState ER (rd m) (kcell (c, k)) 0)
      ⊢ (|={Set.univ}=> bigSep Finset.univ fun k : Key => iprop(∃ κ : ℕ, cellInv ER (rd m) κ (kcell (c, k))) : sProp 𝕄) := by
    rw [← bigSep_sep']
    exact (bigSep_mono fun k _ => (Rounds.body_intro ER (rd m) (kcell (c, k))).trans inv_alloc).trans (bigSep_fupd _ _)
  unfold G
  iintro ⟨Hos, Hus, Hst, Hr, Hat, Htok⟩
  icases (sems0 (F := F) c) $$ [Hos Hus] with Hv
  · isplitl [Hos] <;> iassumption
  imod e $$ [Hv Hst] with Hinv
  · isplitl [Hv] <;> iassumption
  imodintro
  isplitl [Hinv]; · iexact Hinv
  isplitl [Hr]; · iexact Hr
  isplitl [Hat]; · iapply (held_intro c); iexact Hat
  iexact Htok

/-- The devices' shares, collected into one family of invariants and the positions and tokens of each device. -/
theorem regroup :
    (bigSep Finset.univ fun c : Dev nD => iprop((bigSep Finset.univ fun k : Key => iprop(∃ κ : ℕ, cellInv ER (rd m) κ (kcell (c, k))))
          ∗ (bigSep Finset.univ fun k : Key => reached ER (kcell (c, k)) 0) ∗ held (F := F) c ∗ minted (F := F) c))
      ⊢ bigSep Finset.univ (G' m) := by
  have e (K : Dev nD × Key → ℕ) (c : Dev nD) : iprop(records m K ∗ held (F := F) c ∗ toks (F := F) c) ⊢ G' m c := by
    unfold G'; iintro H; iexists K; iexact H
  rw [bigSep_sep', bigSep_sep', bigSep_sep', ← bigSep_univ_prod (fun ck : Dev nD × Key => iprop(∃ κ : ℕ, cellInv ER (rd m) κ (kcell ck))),
    ← bigSep_univ_prod (fun ck : Dev nD × Key => (reached ER (kcell ck) 0 : sProp 𝕄))]
  iintro ⟨HI, #HR, Hat, Htok⟩
  icases (BI.bigSep_exists_pi Finset.univ (fun (ck : Dev nD × Key) (κ : ℕ) => (cellInv ER (rd m) κ (kcell ck) : sProp 𝕄))) $$ HI with ⟨%K, #HI⟩
  icases (toks_dealt (F := F)) $$ Htok with Htok
  iapply (bigSep_with_persistent (R := records m K) fun c _ => e K c)
  isplitr
  · unfold records
    isplitr; · iexact HI
    iexact HR
  rw [bigSep_sep']
  isplitl [Hat] <;> iassumption

/-- All devices at once: every semaphore's invariant, and each device's positions and tokens. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## Promises -/

/-- How often the devices owe semaphore `ck`: signals, and landings of an exchange. -/
def signals (ck : Dev nD × Key) : ℕ := ∑ c : Dev nD, ∑ d ∈ offs, if ck = (par c d, none) then 1 else 0
/-- How many landings of kind `k` a semaphore is owed by all devices together. -/
def landings (k : Fin 4) (ck : Dev nD × Key) : ℕ := ∑ c : Dev nD, ∑ d ∈ offs, if ck = (par c d, some (k, c)) then 1 else 0

/-- What a sum of dues over the offsets says of one semaphore. -/
theorem owed_at (n : ℕ) (A : Finset (Fin 8)) (g : Fin 8 → Dev nD × Key) (ck : Dev nD × Key) :
    (∑ d ∈ A, (tallyAt (kcell (g d)) () n : CellTallies nD τ sig Unit)) (kcell ck) () = (∑ d ∈ A, if ck = g d then 1 else 0) * n := by
  rw [Finset.sum_apply, Finsupp.finset_sum_apply, Finset.sum_mul]
  refine Finset.sum_congr rfl fun d _ => ?_
  rw [tallyAt_apply]
  by_cases h : ck = g d
  · rw [if_pos ⟨congrArg kcell h, rfl⟩, if_pos h, one_mul]
  · rw [if_neg fun h' => h (kcell_injective h'.1), if_neg h, zero_mul]

/-- What all devices together owe one semaphore. -/
theorem launch_at (ck : Dev nD × Key) :
    launchCredit (Pipeline.owing O₀) 0 (kcell ck) () = landings 3 ck * N + landings 1 ck * N + signals ck := by
  rw [Pipeline.launchCredit_owing]
  have h (c : Dev nD) : O₀ c (kcell ck) () = (∑ d ∈ offs, if ck = (par c d, some (3, c)) then 1 else 0) * N
      + (∑ d ∈ offs, if ck = (par c d, some (1, c)) then 1 else 0) * N + ∑ d ∈ offs, if ck = (par c d, none) then 1 else 0 := by
    have hB := owed_at 1 offs (fun d => (par c d, none)) ck
    rw [mul_one] at hB
    unfold O₀
    rw [Pi.add_apply, Finsupp.add_apply, Pi.add_apply, Finsupp.add_apply]
    exact congrArg₂ (· + ·) (congrArg₂ (· + ·) (owed_at N offs (fun d => (par c d, some (3, c))) ck) (owed_at N offs (fun d => (par c d, some (1, c))) ck)) hB
  rw [Finset.sum_congr rfl fun c _ => h c, Finset.sum_add_distrib, Finset.sum_add_distrib, ← Finset.sum_mul, ← Finset.sum_mul]
  rfl

/-- The barrier's semaphore is owed seven signals and no landing; -/
theorem count_bar : ∀ c : Dev nD, landings 3 (c, none) = 0 ∧ landings 1 (c, none) = 0 ∧ signals (c, none) = 7 := by decide +kernel
/-- each receive semaphore of the first exchange one landing; -/
theorem count_1 : ∀ c : Dev nD, ∀ d ∈ offs, landings 3 (c, some (1, par c d)) = 0 ∧ landings 1 (c, some (1, par c d)) = 1 ∧ signals (c, some (1, par c d)) = 0 := by decide +kernel
/-- and each of the second one landing. -/
theorem count_3 : ∀ c : Dev nD, ∀ d ∈ offs, landings 3 (c, some (3, par c d)) = 1 ∧ landings 1 (c, some (3, par c d)) = 0 ∧ signals (c, some (3, par c d)) = 0 := by decide +kernel

/-- So a semaphore's credit at launch is what it is owed. -/
theorem launch_tally (ck : Dev nD × Key) (n : ℕ) (h : landings 3 ck * N + landings 1 ck * N + signals ck = n) :
    tallyOn (kcell ck) (launchCredit (Pipeline.owing O₀) 0 (kcell ck)) = (tallyAt (kcell ck) () n : CellTallies nD τ sig Unit) := by
  unfold tallyAt
  refine congrArg _ (Finsupp.ext fun u => ?_)
  cases u
  rw [Finsupp.single_eq_same]
  exact (launch_at ck).trans h

/-- The credit that device `c` starts with: seven signals, and one landing per partner in each exchange. -/
theorem creds (c : Dev nD) : (Pipeline.launchCred O₀ c : sProp 𝕄)
    ⊢ iprop(cred (tallyAt (barCell c) () 7) ∗ bigSep offs (promised (F := F) c 1) ∗ bigSep offs (promised (F := F) c 3)) := by
  have e : (Pipeline.launchCred O₀ c : sProp 𝕄)
      ⊢ bigSep Finset.univ fun k : Key => cred (tallyOn (kcell (c, k)) (launchCredit (Pipeline.owing O₀) 0 (kcell (c, k)))) := by
    unfold Pipeline.launchCred
    refine (bigSep_subset (Finset.subset_univ (Finset.univ.map ⟨csem, csem_injective⟩))).trans ?_
    rw [bigSep_map]
    exact BI.Entails.refl _
  refine e.trans ?_
  have hB := launch_tally (c, none) 7 (by obtain ⟨h3, h1, hB⟩ := count_bar c; rw [h3, h1, hB, zero_mul, zero_add, zero_add])
  have h1 : ∀ d ∈ offs, (cred (tallyOn (kcell (c, some (1, semAt 1 c d))) (launchCredit (Pipeline.owing O₀) 0 (kcell (c, some (1, semAt 1 c d))))) : sProp 𝕄) = promised (F := F) c 1 d :=
    fun d hd => congrArg cred (launch_tally (c, some (1, par c d)) N (by obtain ⟨h3, h1, hB⟩ := count_1 c d hd; rw [h3, h1, hB, zero_mul, one_mul, zero_add, add_zero]))
  have h3 : ∀ d ∈ offs, (cred (tallyOn (kcell (c, some (3, semAt 3 c d))) (launchCredit (Pipeline.owing O₀) 0 (kcell (c, some (3, semAt 3 c d))))) : sProp 𝕄) = promised (F := F) c 3 d :=
    fun d hd => congrArg cred (launch_tally (c, some (3, par c d)) N (by obtain ⟨h3, h1, hB⟩ := count_3 c d hd; rw [h3, h1, hB, zero_mul, one_mul, add_zero, add_zero]))
  rw [byKey c]
  unfold kindOf
  rw [bigSep_congr h1, bigSep_congr h3]
  rw [hB]
  iintro ⟨B, -, ⟨-, C1⟩, -, ⟨-, C3⟩⟩
  isplitl [B]; · iexact B
  isplitl [C1] <;> iassumption

end Cert.KernelIdeal.AllReduce

end
-- ==== Proof.KernelIdeal.Run.lean ====
/-
The whole program: the launch, the kernel on every device, and what the arrays hold afterwards.
-/
module

public import proofs.«01_k».proof.Proof.KernelIdeal.Deal
public import proofs.«01_k».proof.Proof.Gen.KernelIdeal.Frame
public import Idealize.ShloMosaic.Lib.Pipeline.Launch
public import Idealize.ShloMosaic.Lib.Pipeline.CollectiveSegs

@[expose] public section

noncomputable section

namespace Cert.KernelIdeal.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## What the kernel is run between -/

/-- Before: every semaphore's invariant, this device's positions, tokens and promises, and its two scratch buffers. -/
def start (c : Dev nD) : sProp 𝕄 :=
  iprop(G' m c ∗ (cred (tallyAt (barCell c) () 7) ∗ bigSep offs (promised (F := F) c 1) ∗ bigSep offs (promised (F := F) c 3)) ∗ levAts L lv)
/-- The same, with the scratch buffers. -/
def Φ₀ (c : Dev nD) : sProp 𝕄 := iprop(start m c ∗ (∃ f, bAll (F := F) c f) ∗ (∃ f, rAll (F := F) c f))
/-- After: the scratch buffers, and every semaphore at zero. -/
def Φ₁ (c : Dev nD) : sProp 𝕄 :=
  iprop((∃ f, bAll (F := F) c f) ∗ (∃ f, rAll (F := F) c f) ∗ semVal (barCell c) 0
    ∗ zeros (F := F) c 0 ∗ zeros (F := F) c 1 ∗ zeros (F := F) c 2 ∗ zeros (F := F) c 3)

/-- The staged buffers around the kernel: the shard kept, the result at the sum. -/
def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => outF m
  Φ t := match t with
    | ⟨0, _⟩ => Φ₀ m c
    | ⟨_ + 1, _⟩ => Φ₁ c
  q _ := fullShare
  owed t := match t with
    | ⟨0, _⟩ => O₀ c
    | ⟨_ + 1, _⟩ => 0

/-- A product over the two windows, spelt out. -/
theorem two (Φ : Fin cfg0.W → sProp 𝕄) : bigSep Finset.univ Φ = iprop(Φ (0 : Fin 2) ∗ Φ (1 : Fin 2)) := bigSep_W0 Φ

/-- Owning a whole buffer is holding all its entries. -/
theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ ((c : Thread nD τ).loc b) ↦{fullShare} f) := by
  unfold owns; simp only [Memref.view_whole, View.read_whole, View.set_whole]

/-- A staging buffer and what it holds. -/
abbrev staged (c : Dev nD) (b : Ref sig .tc) (X : b.ty.Contents (Elt F)) : sProp 𝕄 :=
  iprop(∃ f : Buf (Elt F) ((c : Thread nD τ).loc b), ⌜f = X⌝ ∗ ((c : Thread nD τ).loc b) ↦{fullShare} f)

/-- What the pipeline hands the body, -/
def bodyPre (c : Dev nD) : sProp 𝕄 :=
  iprop(Φ₀ m c ∗ (dats m 0 c).owesAt () t0_0.castSucc
    ∗ (∃ d, staged c cc0_stg0_0 ((dats m 0 c).before (0 : Fin 2) t0_0 d))
    ∗ (∃ d, staged c cc0_stg1_0 ((dats m 0 c).before (1 : Fin 2) t0_0 d)))
/-- and what it takes back. -/
def bodyPost (c : Dev nD) : sProp 𝕄 :=
  iprop(Φ₁ (F := F) c ∗ (dats m 0 c).owesAt () t0_0.succ ∗ staged c cc0_stg0_0 (xstg m c) ∗ staged c cc0_stg1_0 (outF m))

/-- What the pipeline hands over is what the body begins with; -/
theorem begin_intro (c : Dev nD) : bodyPre m c ⊢ iprop(∃ K, begun m K c) := by
  unfold bodyPre Φ₀ start G' begun
  iintro ⟨⟨⟨⟨%K, Hrec, Hat, Htok⟩, Hcr, Hlev⟩, Hb, Hr⟩, Ho, ⟨%d0, %g0, %hg0, Hx⟩, ⟨%d1, %g1, %hg1, Hout⟩⟩
  have hx : g0 = xstg m c := by rw [hg0]; unfold Dat.before; rw [if_pos (fetch0_0 t0_0)]; rfl
  subst hx
  unfold Dat.owesAt Pipeline.owesWithin
  icases Ho with ⟨%W, %hW, HO⟩
  iexists K
  isplitl [Hrec Hlev]
  · unfold ctx; isplitl [Hrec] <;> iassumption
  isplitl [HO]; · unfold owing; iexists W; iexact HO
  isplitl [Hx]; · unfold xAll; iexact Hx
  isplitl [Hout]; · iexists g1; unfold oAll; iexact Hout
  isplitl [Hb]; · iexact Hb
  isplitl [Hr]; · iexact Hr
  isplitl [Hcr]; · iexact Hcr
  isplitl [Htok]; · iexact Htok
  unfold held; iexact Hat

/-- and what it ends with is what the pipeline takes back. -/
theorem end_elim (c : Dev nD) : ended m c ⊢ bodyPost m c := by
  unfold ended bodyPost Φ₁ Dat.owesAt Pipeline.owesWithin owing xAll oAll
  iintro ⟨⟨%W, HO⟩, Hx, Ho, Hb, Hr, Hs⟩
  isplitl [Hb Hr Hs]
  · isplitl [Hb]; · iexact Hb
    isplitl [Hr] <;> iassumption
  isplitl [HO]
  · iexists W
    isplitr; · ipureintro; exact fun _ _ => Or.inl trivial
    iexact HO
  isplitl [Hx]
  · iexists _; isplitr; · (ipureintro; rfl)
    iexact Hx
  iexists _; isplitr; · (ipureintro; rfl)
  iexact Ho

set_option maxRecDepth 4000 in
/-- So the body does what the pipeline asks of it. -/
theorem body_obligation (c : Dev nD) : BodyObligation (dats (F := F) m 0 c) (defs₀ (F := F)) 𝒱₀ () Set.univ := fun t => by
  rw [fin_N0 t]
  rw [two, two]
  simp only [owns_whole]
  show bodyPre m c ⊢ Runs c (cc0_body xM (Memref.isWhole_whole _) oM (Memref.isWhole_whole _) bM (Memref.isWhole_whole _) rM (Memref.isWhole_whole _)
    cc0_scratch2 cc0_scratch3 cc0_scratch4 cc0_scratch5) (fun _ => bodyPost m c)
  have e : iprop(ended m c ∗ emp) ⊢ iprop(|={Set.univ}=> bodyPost m c) := by
    iintro ⟨H, -⟩
    imodintro
    iapply (end_elim m c); iexact H
  refine (begin_intro m c).trans ?_
  iintro ⟨%K, H⟩
  iapply (body m K c (R := iprop(emp)) (Q := fun _ => bodyPost m c) e)
  isplitl [H]; · iexact H
  iempintro

/-! ## The launch -/

/-- The kernel's own semaphores are distinct and none is the pipeline's. -/
theorem ownSemFacts : Pipeline.OwnSemFacts cfg0.spec osem := by decide

/-- Every array is held whole. -/
theorem share_eq (c : Dev nD) (w : Fin cfg0.W) : (dats m 0 c).share w = fullShare := by unfold Dat.share; split <;> rfl

/-- What the launch gives each device is what the kernel starts from, -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  icases (creds (F := F) c) $$ Hcr with Hcr
  imodintro
  unfold start
  isplitl
  · isplitl [HG]; · iexact HG
    isplitl [Hcr] <;> iassumption
  iempintro

/-- with the scratch buffers added. -/
theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ bAll rAll
  iintro ⟨Hs, -, Hb, Hr⟩
  isplitl [Hs]; · iexact Hs
  isplitl [Hb] <;> iassumption

/-- The four kinds of semaphore at zero are all the kernel's own semaphores at zero. -/
theorem ownSems_intro (c : Dev nD) : iprop(zeros (F := F) c 0 ∗ zeros (F := F) c 1 ∗ zeros (F := F) c 2 ∗ zeros (F := F) c 3)
    ⊢ (Pipeline.ownSems0 (Ix := Unit) (Name := ℕ) (U := UU) (Lvl := ℕ) (Val := Elt F) (τ := τ) osem c : sProp 𝕄) := by
  unfold Pipeline.ownSems0
  rw [bigSep_univ_prod, four]
  unfold zeros
  exact BI.Entails.refl _

/-- At the end the semaphores and the scratch buffers are handed back. -/
theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, scopedRest0_eq, unscopedSems0_eq]
  unfold Φ₁ bAll rAll
  iintro ⟨Hb, Hr, HB, Hz⟩
  isplitl [HB]; · iexact HB
  isplitl [Hz]; · iapply (ownSems_intro c); iexact Hz
  isplitl [Hb] <;> iassumption

/-- The pipeline may wait for its own copies whatever the kernel owes. -/
theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-- Window `w`'s array on device `c` once the kernel is done. -/
def final (c : Dev nD) (w : Fin cfg0.W) : Buf (Elt F) ((cfg0.win w).arr.view.loc (c : Thread nD τ)) := (dats m 0 c).arrAt w cfg0.N

set_option maxRecDepth 8000 in
/-- From any memory with every semaphore at zero, every execution ends, with each device's arrays at `final` and every
    semaphore at zero. -/
theorem run_main : θ_run defs (onTc (τ := τ) (main (F := F))) (s₀ m ρ)
    (fun r => (∀ c : Dev nD, ∀ w : Fin cfg0.W, r.2.mem ((cfg0.win w).arr.view.loc (c : Thread nD τ)) = final m c w) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The shard is unchanged. -/
theorem final_x (c : Dev nD) : final m c (0 : Fin 2) = m ((c : Thread nD τ).loc main_arg0) :=
  (dats (F := F) m 0 c).arrAt_in (0 : Fin 2) rfl _

end Cert.KernelIdeal.AllReduce

end
-- ==== Proof.Value.Block.lean ====
/-
What one block of the result is, at exact arithmetic: the sum over the eight devices of the same block of their shards.
-/
module

public import proofs.«01_k».proof.Proof.KernelIdeal.Blocks
public import Idealize.ShloMosaic.PureOps.Ideal.Laws
public import Idealize.ShloMosaic.Lib.ValueIdx

@[expose] public section

noncomputable section

namespace Cert.KernelIdeal.AllReduce

open Cert.KernelIdeal Cert.KernelIdeal.Gen
open Idealize.ShloMosaic Idealize.ShloMosaic.TcCoe Idealize.ShloMosaic.ValueIdx
open Idealize.SL Idealize.SL.Sem

variable {F : FTy → Type} [FloatOps F]

/-- Device `c`'s shard of `x`, as launched. -/
def shard (m : (ℓ : Loc nD τ sig) → Buf (Elt F) ℓ) (c : Dev nD) : Vec F S1x512x512 .bf16 := m ((c : Thread nD τ).loc main_arg0)

/-- Staging copies the shard whole: its one block starts at the origin. -/
theorem xstg_apply (m : (ℓ : Loc nD τ sig) → Buf (Elt F) ℓ) (c : Dev nD) (i j : Fin 512) :
    xstg m c (ix3 (0 : Fin 1) i j) = shard m c (ix3 (0 : Fin 1) i j) := by
  have e : (win0_0.blk (0 : Fin 1)).view.emb (ix3 (0 : Fin 1) i j) = ix3 (0 : Fin 1) i j := by
    funext a
    match a with
    | ⟨0, _⟩ => rfl
    | ⟨1, _⟩ => exact Fin.ext (show 0 * 512 + 1 * i.val = i.val by omega)
    | ⟨2, _⟩ => exact Fin.ext (show 0 * 512 + 1 * j.val = j.val by omega)
  unfold xstg
  rw [View.read_apply, e]; rfl

/-- The working copy is the shard with its leading axis of one dropped. -/
theorem copyF_apply (m : (ℓ : Loc nD τ sig) → Buf (Elt F) ℓ) (c : Dev nD) (i j : Fin 512) :
    copyF m c (ix2 i j) = shard m c (ix3 (0 : Fin 1) i j) := by
  unfold copyF k0_pay1
  rw [shapeCast_self, shapeCast_1ab_ab_apply]
  exact xstg_apply m c i j

/-- Slot `p` on device `c`, at row `r` and column `j`: row `64 c + r` of device `p`'s shard. -/
theorem slotF_apply (m : (ℓ : Loc nD τ sig) → Buf (Elt F) ℓ) (c : Dev nD) (p : Fin 8) (r : Fin 64) (j : Fin 512) :
    shapeCast S64x512 (slotF m c p) shapeCasts_S1x64x512_S64x512 (ix2 r j)
      = shard m p (ix3 (0 : Fin 1) ⟨64 * c.val + r.val, row_lt c r⟩ j) := by
  rw [shapeCast_1ab_ab_apply]
  exact copyF_apply m p _ j

/-- Device `c`'s sum, at row `r` and column `j`: the sum of the shards at row `64 c + r`. -/
theorem sumF_apply (m : (ℓ : Loc nD τ sig) → Buf (Elt Ideal) ℓ) (c : Dev nD) (r : Fin 64) (j : Fin 512) :
    (sumF m c (ix2 r j) : EReal) = ∑ p : Fin 8, (shard m p (ix3 (0 : Fin 1) ⟨64 * c.val + r.val, row_lt c r⟩ j) : EReal) := by
  refine Eq.trans ?_ (Finset.sum_congr rfl fun p _ => slotF_apply m c p r j)
  rw [Fin.sum_univ_eight]
  unfold sumF k0_pay3
  simp only [addf_apply]

end Cert.KernelIdeal.AllReduce

end
-- ==== Proof.Value.Array.lean ====
/-
What the arrays hold when the kernel is done: on every device the result array is the sum of the eight shards.
-/
module

public import proofs.«01_k».proof.Proof.KernelIdeal.Run
public import proofs.«01_k».proof.Proof.Value.Block
public import Idealize.ShloMosaic.Lib.Pipeline.Value

@[expose] public section

noncomputable section

namespace Cert.KernelIdeal.AllReduce

open Cert.KernelIdeal Cert.KernelIdeal.Gen
open Idealize.ShloMosaic Idealize.ShloMosaic.TcCoe Idealize.ShloMosaic.ValueIdx
open Idealize.SL Idealize.SL.Sem

variable {F : FTy → Type} [FloatOps F]

/-- The result window's one block is the whole array. -/
theorem emb_out (t : Fin cfg0.N) (i j : Fin 512) : (win0_1.blk t).view.emb (ix2 i j) = ix2 i j := by
  rw [fin_N0 t]
  funext a
  match a with
  | ⟨0, _⟩ => exact Fin.ext (show 0 * 512 + 1 * i.val = i.val by omega)
  | ⟨1, _⟩ => exact Fin.ext (show 0 * 512 + 1 * j.val = j.val by omega)

/-- So the result array ends at the assembled sum. -/
theorem final_out (m : (ℓ : Loc nD τ sig) → Buf (Elt F) ℓ) (c : Dev nD) : final m c (1 : Fin 2) = outF m := by
  refine (dats m 0 c).arrAt_eq_of_cover (1 : Fin 2) (outF m) (fun t _ => ?_) (fun i => ⟨t0_0, flush0_1 _, ?_⟩)
  · funext x
    obtain ⟨i, j, rfl⟩ : ∃ i j : Fin 512, x = ix2 i j := ⟨x 0, x 1, eq_ix2 x⟩
    show outF m (ix2 i j) = outF m ((win0_1.blk t).view.emb (ix2 i j))
    rw [emb_out]
  · obtain ⟨a, b, rfl⟩ : ∃ a b : Fin 512, i = ix2 a b := ⟨i 0, i 1, eq_ix2 i⟩
    have h := (win0_1.blk t0_0).view.emb_mem_set (ix2 a b)
    rw [emb_out] at h
    exact h

/-- At exact arithmetic that is, entry by entry, the sum of the eight shards. -/
theorem outF_apply (m : (ℓ : Loc nD τ sig) → Buf (Elt Ideal) ℓ) (i j : Fin 512) :
    (outF m (ix2 i j) : EReal) = ∑ p : Fin 8, (shard m p (ix3 (0 : Fin 1) i j) : EReal) := by
  have hi : (⟨64 * (i.val / 64) + i.val % 64, row_lt ⟨i.val / 64, blk_lt i⟩ ⟨i.val % 64, off_lt i⟩⟩ : Fin 512) = i :=
    Fin.ext (Nat.div_add_mod i.val 64)
  have h := sumF_apply m ⟨i.val / 64, blk_lt i⟩ ⟨i.val % 64, off_lt i⟩ j
  rw [hi] at h
  exact h

end Cert.KernelIdeal.AllReduce

end
-- ==== Proof.Value.Reference.lean ====
/-
What the reference computes at exact arithmetic: the sum of the whole `x` over its leading axis.
-/
module

public import proofs.«01_k».proof.Proof.Gen.ReferenceIdeal.Run
public import Idealize.ShloMosaic.Lib.IdealHost
public import Idealize.ShloMosaic.Lib.Pointwise.Reduce
public import Idealize.ShloMosaic.Lib.ValueLayout

@[expose] public section

noncomputable section

namespace Cert.ReferenceIdeal.Sum

open Cert.ReferenceIdeal Cert.ReferenceIdeal.Gen
open Idealize.ShloMosaic hiding ix2 ix3
open Idealize.ShloMosaic.TcCoe Idealize.ShloMosaic.ValueIdx

/-- The reference's result as a function of the whole `x`. -/
def total (x : FVec Ideal S8x512x512 .bf16) : FVec Ideal S512x512 .bf16 :=
  truncf .bf16 (Host.reduceAdd (extf .f32 x bitsLt_bf16_f32) (constant S_ .f32 0x00000000#32) reducesTo_S8x512x512_S512x512_d0 h_S_) bitsLt_bf16_f32

/-- Widening and narrowing change nothing, and the sum starts from zero. -/
theorem total_apply (x : FVec Ideal S8x512x512 .bf16) (i j : Fin 512) :
    (total x (ix2 i j) : EReal) = ∑ p : Fin 8, (x (ix3 p i j) : EReal) := by
  unfold total
  rw [ValueIdx.truncf_apply, hostReduceAdd_apply, Ideal.hostReduceAdd_r3_a0, ValueIdx.constant_apply,
    show Ideal.ofBits .f32 0x00000000#32 = 0 by simp [Ideal.ofBits, Ideal.ieee], zero_add]
  refine Finset.sum_congr rfl fun p _ => ?_
  rw [ValueIdx.extf_apply]
  exact congrArg x (funext fun a => by fin_cases a <;> rfl)

end Cert.ReferenceIdeal.Sum

end
-- ==== Proof.Value.Equation.lean ====
/-
The equation: when every device's shard is its part of the reference's `x`, the kernel's result is the reference's.
-/
module

public import proofs.«01_k».proof.Proof.Value.Array
public import proofs.«01_k».proof.Proof.Value.Reference
public import Idealize.ShloMosaic.Lib.Layout

@[expose] public section

noncomputable section

namespace Cert.Value

open Idealize.ShloMosaic hiding ix2 ix3 eq_ix2
open Idealize.ShloMosaic.TcCoe Idealize.ShloMosaic.ValueIdx
open Cert.KernelIdeal.AllReduce (shard outF outF_apply)
open Cert.ReferenceIdeal.Sum (total total_apply)

/-- The whole `x` is eight shards, one after another along its leading axis. -/
theorem cut : Layout.Tiles ⟨3, ![1, 512, 512]⟩ ⟨3, ![8, 512, 512]⟩ 0 8 := by decide

/-- Entry `(0, i, j)` of part `p` is entry `(p, i, j)` of the whole. -/
theorem part_apply (x : FVec Ideal ⟨3, ![8, 512, 512]⟩ .bf16) (p : Fin 8) (i j : Fin 512) :
    Layout.block ⟨3, ![1, 512, 512]⟩ ⟨3, ![8, 512, 512]⟩ 0 8 p x cut (ix3 (0 : Fin 1) i j) = x (ix3 p i j) := by
  rw [Layout.block_apply]
  refine congrArg x (funext fun a => ?_)
  match a with
  | ⟨0, _⟩ => exact Fin.ext (show p.val * 1 + 0 = p.val by omega)
  | ⟨1, _⟩ => rfl
  | ⟨2, _⟩ => rfl

/-- The assembled sum of the shards is the sum of `x` over its leading axis. -/
theorem outF_eq_total (m : (ℓ : Loc Cert.KernelIdeal.nD Cert.KernelIdeal.τ Cert.KernelIdeal.sig) → Buf (Elt Ideal) ℓ)
    (x : FVec Ideal ⟨3, ![8, 512, 512]⟩ .bf16)
    (h : ∀ c, shard m c = Layout.block ⟨3, ![1, 512, 512]⟩ ⟨3, ![8, 512, 512]⟩ 0 8 c x cut) : outF m = total x := by
  funext k
  obtain ⟨i, j, rfl⟩ : ∃ i j : Fin 512, k = ix2 i j := ⟨k 0, k 1, eq_ix2 k⟩
  have e : ∑ p : Fin 8, (shard m p (ix3 (0 : Fin 1) i j) : EReal) = ∑ p : Fin 8, (x (ix3 p i j) : EReal) :=
    Finset.sum_congr rfl fun p _ => by rw [h p]; exact part_apply x p i j
  exact (outF_apply m i j).trans (e.trans (total_apply x i j).symm)

end Cert.Value

end
-- ==== Proof.lean ====
/-
The claims: the kernel, the kernel at exact arithmetic and the reference all run to the end from any memory, leave
their arguments as they were and every semaphore at zero; and at exact arithmetic every device ends with the
reference's result.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Kernel.Run
public import proofs.«01_k».proof.Proof.KernelIdeal.Run
public import proofs.«01_k».proof.Proof.Value.Equation
public import Idealize.ShloMosaic.Adequacy
public import Idealize.ShloMosaic.Init

@[expose] public section

noncomputable section

namespace Cert.Proof

open Idealize.ShloMosaic Idealize.SL.Sem

/-- The kernel runs on every device, keeps its shard, and leaves every semaphore at zero. -/
theorem kernel_runs : Cert.quiescent_Kernel (hKernel := Cert.Kernel.Gen.facts) := fun m g _ =>
  (θ_run _ _ _).mono (fun _ h => ⟨fun c => (h.1 c (0 : Fin 2)).trans (Cert.Kernel.AllReduce.final_x m c), h.2⟩)
    (Cert.Kernel.AllReduce.run_main m g)

/-- The same at exact arithmetic. -/
theorem ideal_runs : Cert.quiescent_KernelIdeal (hKernelIdeal := Cert.KernelIdeal.Gen.facts) := fun m g _ =>
  (θ_run _ _ _).mono (fun _ h => ⟨fun c => (h.1 c (0 : Fin 2)).trans (Cert.KernelIdeal.AllReduce.final_x m c), h.2⟩)
    (Cert.KernelIdeal.AllReduce.run_main m g)

/-- The reference runs; it has no semaphore to leave anywhere but at zero. -/
theorem reference_runs : Cert.quiescent_ReferenceIdeal (hReferenceIdeal := Cert.ReferenceIdeal.Gen.facts) := fun m g _ =>
  (θ_run _ _ _).mono (fun r h => ⟨fun c => (h c).2, sem_eq_zero_of_no_sems rfl r.2⟩) (Cert.ReferenceIdeal.Value.run m g)

/-- At exact arithmetic every device ends with the sum of `x` over its leading axis, which is what the reference returns. -/
theorem sums_agree : Cert.algebraic_KernelIdeal_ReferenceIdeal (hKernelIdeal := Cert.KernelIdeal.Gen.facts)
    (hReferenceIdeal := Cert.ReferenceIdeal.Gen.facts) := fun m g m' g' _ hx =>
  ⟨Cert.ReferenceIdeal.Sum.total (m' (((0 : Dev Cert.ReferenceIdeal.nD).tc : Thread Cert.ReferenceIdeal.nD Cert.ReferenceIdeal.τ).loc Cert.ReferenceIdeal.main_arg0)),
    (θ_run _ _ _).mono (fun _ h c =>
        ⟨(h.1 c (1 : Fin 2)).trans ((Cert.KernelIdeal.AllReduce.final_out m c).trans (Cert.Value.outF_eq_total m _ hx)),
          (h.1 c (0 : Fin 2)).trans (Cert.KernelIdeal.AllReduce.final_x m c)⟩)
      (Cert.KernelIdeal.AllReduce.run_main m g),
    (θ_run _ _ _).mono (fun _ h => h 0) (Cert.ReferenceIdeal.Value.run m' g')⟩

/-- All five claims together. -/
theorem claim : Cert.Claim :=
  ⟨Cert.Kernel.Gen.facts, Cert.KernelIdeal.Gen.facts, Cert.ReferenceIdeal.Gen.facts,
    kernel_runs, ideal_runs, reference_runs, trivial, sums_agree⟩

end Cert.Proof

end
